-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x512 : Shape := ⟨3, ![2, 4096, 512]⟩
abbrev S8x512x1024 : Shape := ⟨3, ![8, 512, 1024]⟩
abbrev S8x128 : Shape := ⟨2, ![8, 128]⟩
abbrev S1x128 : Shape := ⟨2, ![1, 128]⟩
abbrev S2x4 : Shape := ⟨2, ![2, 4]⟩
abbrev S7 : Shape := ⟨1, ![7]⟩
abbrev S8 : Shape := ⟨1, ![8]⟩
abbrev S_ : Shape := ⟨0, ![]⟩
abbrev S1x1 : Shape := ⟨2, ![1, 1]⟩
abbrev S1x1024x512 : Shape := ⟨3, ![1, 1024, 512]⟩
abbrev S1024x512 : Shape := ⟨2, ![1024, 512]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x512x1024 : Shape := ⟨3, ![1, 512, 1024]⟩
abbrev S512x1024 : Shape := ⟨2, ![512, 1024]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S512x4096, .bf16⟩
  | .local _ .vmem, ⟨3, _⟩ => ⟨S2x4096x512, .f32⟩
  | .local _ .vmem, ⟨4, _⟩ => ⟨S8x512x1024, .i16⟩
  | .local _ .vmem, ⟨5, _⟩ => ⟨S8x512x1024, .i16⟩
  | .local _ .vmem, ⟨6, _⟩ => ⟨S8x128, .f32⟩
  | .local _ .vmem, ⟨7, _⟩ => ⟨S1x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 2 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c0_i32 : BitVec 32 := 0#32
  let v5 : BitVec 32 := Scalar.addi v4 c0_i32
  let c8_i32_1 : BitVec 32 := 8#32
  let c0_i32_2 : BitVec 32 := 0#32
  let v6 : BitVec 1 := Scalar.cmpi .eq c8_i32_1 c0_i32_2
  let c1_i32_3 : BitVec 32 := 1#32
  let v7 : BitVec 32 := Scalar.select v6 c1_i32_3 c8_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v18 : BitVec 32 := Scalar.addi v2 c1_i32_10
  let c1_i32_11 : BitVec 32 := 1#32
  let v19 : BitVec 32 := Scalar.addi v18 c1_i32_11
  let c8_i32_12 : BitVec 32 := 8#32
  let c0_i32_13 : BitVec 32 := 0#32
  let v20 : BitVec 1 := Scalar.cmpi .eq c8_i32_12 c0_i32_13
  let c1_i32_14 : BitVec 32 := 1#32
  let v21 : BitVec 32 := Scalar.select v20 c1_i32_14 c8_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v32 : BitVec 32 := Scalar.addi v2 c1_i32_21
  let c2_i32 : BitVec 32 := 2#32
  let v33 : BitVec 32 := Scalar.addi v32 c2_i32
  let c8_i32_22 : BitVec 32 := 8#32
  let c0_i32_23 : BitVec 32 := 0#32
  let v34 : BitVec 1 := Scalar.cmpi .eq c8_i32_22 c0_i32_23
  let c1_i32_24 : BitVec 32 := 1#32
  let v35 : BitVec 32 := Scalar.select v34 c1_i32_24 c8_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v46 : BitVec 32 := Scalar.addi v2 c1_i32_31
  let c3_i32 : BitVec 32 := 3#32
  let v47 : BitVec 32 := Scalar.addi v46 c3_i32
  let c8_i32_32 : BitVec 32 := 8#32
  let c0_i32_33 : BitVec 32 := 0#32
  let v48 : BitVec 1 := Scalar.cmpi .eq c8_i32_32 c0_i32_33
  let c1_i32_34 : BitVec 32 := 1#32
  let v49 : BitVec 32 := Scalar.select v48 c1_i32_34 c8_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_39 : BitVec 32 := 1#32
  let v58 : BitVec 32 := Scalar.muli v57 c1_i32_39
  let v59 : BitVec 32 := Scalar.addi c0_i32_40 v58
  v59.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v60 : BitVec 32 := Scalar.addi v2 c1_i32_41
  let c4_i32 : BitVec 32 := 4#32
  let v61 : BitVec 32 := Scalar.addi v60 c4_i32
  let c8_i32_42 : BitVec 32 := 8#32
  let c0_i32_43 : BitVec 32 := 0#32
  let v62 : BitVec 1 := Scalar.cmpi .eq c8_i32_42 c0_i32_43
  let c1_i32_44 : BitVec 32 := 1#32
  let v63 : BitVec 32 := Scalar.select v62 c1_i32_44 c8_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v74 : BitVec 32 := Scalar.addi v2 c1_i32_51
  let c5_i32 : BitVec 32 := 5#32
  let v75 : BitVec 32 := Scalar.addi v74 c5_i32
  let c8_i32_52 : BitVec 32 := 8#32
  let c0_i32_53 : BitVec 32 := 0#32
  let v76 : BitVec 1 := Scalar.cmpi .eq c8_i32_52 c0_i32_53
  let c1_i32_54 : BitVec 32 := 1#32
  let v77 : BitVec 32 := Scalar.select v76 c1_i32_54 c8_i32_52
  let v78 : BitVec 32 := Scalar.remsi v75 v77
  let c0_i32_56 : BitVec 32 := 0#32
  let v80 : BitVec 1 := Scalar.cmpi .slt v78 c0_i32_56
  let c0_i32_57 : BitVec 32 := 0#32
  let v81 : BitVec 1 := Scalar.cmpi .slt v77 c0_i32_57
  let v82 : BitVec 1 := Scalar.xori v80 v81
  let c0_i32_55 : BitVec 32 := 0#32
  let v79 : BitVec 1 := Scalar.cmpi .ne v78 c0_i32_55
  let v83 : BitVec 1 := Scalar.andi v82 v79
  let v84 : BitVec 32 := Scalar.addi v78 v77
  let v85 : BitVec 32 := Scalar.select v83 v84 v78
  let c1_i32_59 : BitVec 32 := 1#32
  let v86 : BitVec 32 := Scalar.muli v85 c1_i32_59
  let v87 : BitVec 32 := Scalar.addi c0_i32_60 v86
  v87.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v88 : BitVec 32 := Scalar.addi v2 c1_i32_61
  let c6_i32 : BitVec 32 := 6#32
  let v89 : BitVec 32 := Scalar.addi v88 c6_i32
  let c8_i32_62 : BitVec 32 := 8#32
  let c0_i32_63 : BitVec 32 := 0#32
  let v90 : BitVec 1 := Scalar.cmpi .eq c8_i32_62 c0_i32_63
  let c1_i32_64 : BitVec 32 := 1#32
  let v91 : BitVec 32 := Scalar.select v90 c1_i32_64 c8_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_69 : BitVec 32 := 1#32
  let v100 : BitVec 32 := Scalar.muli v99 c1_i32_69
  let v101 : BitVec 32 := Scalar.addi c0_i32_70 v100
  v101.toNat
def k0_off1 (d0 : Dev nD) (c0_i32_77 : BitVec 32) (c0_i32_84 : BitVec 32) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v112 : BitVec 32 := Scalar.addi v2 c1_i32_76
  let v113 : BitVec 32 := Scalar.addi v112 c0_i32_77
  let c8_i32_78 : BitVec 32 := 8#32
  let c0_i32_79 : BitVec 32 := 0#32
  let v114 : BitVec 1 := Scalar.cmpi .eq c8_i32_78 c0_i32_79
  let c1_i32_80 : BitVec 32 := 1#32
  let v115 : BitVec 32 := Scalar.select v114 c1_i32_80 c8_i32_78
  let v116 : BitVec 32 := Scalar.remsi v113 v115
  let c0_i32_82 : BitVec 32 := 0#32
  let v118 : BitVec 1 := Scalar.cmpi .slt v116 c0_i32_82
  let c0_i32_83 : BitVec 32 := 0#32
  let v119 : BitVec 1 := Scalar.cmpi .slt v115 c0_i32_83
  let v120 : BitVec 1 := Scalar.xori v118 v119
  let c0_i32_81 : BitVec 32 := 0#32
  let v117 : BitVec 1 := Scalar.cmpi .ne v116 c0_i32_81
  let v121 : BitVec 1 := Scalar.andi v120 v117
  let v122 : BitVec 32 := Scalar.addi v116 v115
  let v123 : BitVec 32 := Scalar.select v121 v122 v116
  let c1024_i32 : BitVec 32 := 1024#32
  let v124 : BitVec 32 := Scalar.muli v123 c1024_i32
  let v125 : BitVec 32 := Scalar.addi v124 c0_i32_84
  ![0, v125.toNat]
def k0_off2 (d0 : Dev nD) (c0_i32_86 : BitVec 32) (c0_i32_94 : BitVec 32) : Fin 2 → Nat :=
  let c1024_i32_126 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v126 : BitVec 32 := Scalar.addi v2 c1_i32_85
  let v127 : BitVec 32 := Scalar.addi v126 c0_i32_86
  let c8_i32_87 : BitVec 32 := 8#32
  let c0_i32_88 : BitVec 32 := 0#32
  let v128 : BitVec 1 := Scalar.cmpi .eq c8_i32_87 c0_i32_88
  let c1_i32_89 : BitVec 32 := 1#32
  let v129 : BitVec 32 := Scalar.select v128 c1_i32_89 c8_i32_87
  let v130 : BitVec 32 := Scalar.remsi v127 v129
  let c0_i32_91 : BitVec 32 := 0#32
  let v132 : BitVec 1 := Scalar.cmpi .slt v130 c0_i32_91
  let c0_i32_92 : BitVec 32 := 0#32
  let v133 : BitVec 1 := Scalar.cmpi .slt v129 c0_i32_92
  let v134 : BitVec 1 := Scalar.xori v132 v133
  let c0_i32_90 : BitVec 32 := 0#32
  let v131 : BitVec 1 := Scalar.cmpi .ne v130 c0_i32_90
  let v135 : BitVec 1 := Scalar.andi v134 v131
  let v136 : BitVec 32 := Scalar.addi v130 v129
  let v137 : BitVec 32 := Scalar.select v135 v136 v130
  let c1024_i32_93 : BitVec 32 := 1024#32
  let v138 : BitVec 32 := Scalar.muli v137 c1024_i32_93
  let v139 : BitVec 32 := Scalar.addi v138 c0_i32_94
  ![1024, v139.toNat]
def k0_off3 (d0 : Dev nD) (c0_i32_96 : BitVec 32) (c0_i32_104 : BitVec 32) : Fin 2 → Nat :=
  let c2048_i32_131 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v140 : BitVec 32 := Scalar.addi v2 c1_i32_95
  let v141 : BitVec 32 := Scalar.addi v140 c0_i32_96
  let c8_i32_97 : BitVec 32 := 8#32
  let c0_i32_98 : BitVec 32 := 0#32
  let v142 : BitVec 1 := Scalar.cmpi .eq c8_i32_97 c0_i32_98
  let c1_i32_99 : BitVec 32 := 1#32
  let v143 : BitVec 32 := Scalar.select v142 c1_i32_99 c8_i32_97
  let v144 : BitVec 32 := Scalar.remsi v141 v143
  let c0_i32_101 : BitVec 32 := 0#32
  let v146 : BitVec 1 := Scalar.cmpi .slt v144 c0_i32_101
  let c0_i32_102 : BitVec 32 := 0#32
  let v147 : BitVec 1 := Scalar.cmpi .slt v143 c0_i32_102
  let v148 : BitVec 1 := Scalar.xori v146 v147
  let c0_i32_100 : BitVec 32 := 0#32
  let v145 : BitVec 1 := Scalar.cmpi .ne v144 c0_i32_100
  let v149 : BitVec 1 := Scalar.andi v148 v145
  let v150 : BitVec 32 := Scalar.addi v144 v143
  let v151 : BitVec 32 := Scalar.select v149 v150 v144
  let c1024_i32_103 : BitVec 32 := 1024#32
  let v152 : BitVec 32 := Scalar.muli v151 c1024_i32_103
  let v153 : BitVec 32 := Scalar.addi v152 c0_i32_104
  ![2048, v153.toNat]
def k0_off4 (d0 : Dev nD) (c0_i32_106 : BitVec 32) (c0_i32_114 : BitVec 32) : Fin 2 → Nat :=
  let c3072_i32_136 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_105 : BitVec 32 := 1#32
  let v154 : BitVec 32 := Scalar.addi v2 c1_i32_105
  let v155 : BitVec 32 := Scalar.addi v154 c0_i32_106
  let c8_i32_107 : BitVec 32 := 8#32
  let c0_i32_108 : BitVec 32 := 0#32
  let v156 : BitVec 1 := Scalar.cmpi .eq c8_i32_107 c0_i32_108
  let c1_i32_109 : BitVec 32 := 1#32
  let v157 : BitVec 32 := Scalar.select v156 c1_i32_109 c8_i32_107
  let v158 : BitVec 32 := Scalar.remsi v155 v157
  let c0_i32_111 : BitVec 32 := 0#32
  let v160 : BitVec 1 := Scalar.cmpi .slt v158 c0_i32_111
  let c0_i32_112 : BitVec 32 := 0#32
  let v161 : BitVec 1 := Scalar.cmpi .slt v157 c0_i32_112
  let v162 : BitVec 1 := Scalar.xori v160 v161
  let c0_i32_110 : BitVec 32 := 0#32
  let v159 : BitVec 1 := Scalar.cmpi .ne v158 c0_i32_110
  let v163 : BitVec 1 := Scalar.andi v162 v159
  let v164 : BitVec 32 := Scalar.addi v158 v157
  let v165 : BitVec 32 := Scalar.select v163 v164 v158
  let c1024_i32_113 : BitVec 32 := 1024#32
  let v166 : BitVec 32 := Scalar.muli v165 c1024_i32_113
  let v167 : BitVec 32 := Scalar.addi v166 c0_i32_114
  ![3072, v167.toNat]
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_434 : BitVec 32 := 0#32
  let c0_i32_435 : BitVec 32 := 0#32
  ![v2.toNat, 0, 0]
def k0_dev8 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_422 : BitVec 32 := 1#32
  let v540 : BitVec 32 := Scalar.addi v2 c1_i32_422
  let c0_i32_423 : BitVec 32 := 0#32
  let v541 : BitVec 32 := Scalar.addi v540 c0_i32_423
  let c8_i32_424 : BitVec 32 := 8#32
  let c0_i32_425 : BitVec 32 := 0#32
  let v542 : BitVec 1 := Scalar.cmpi .eq c8_i32_424 c0_i32_425
  let c1_i32_426 : BitVec 32 := 1#32
  let v543 : BitVec 32 := Scalar.select v542 c1_i32_426 c8_i32_424
  let v544 : BitVec 32 := Scalar.remsi v541 v543
  let c0_i32_428 : BitVec 32 := 0#32
  let v546 : BitVec 1 := Scalar.cmpi .slt v544 c0_i32_428
  let c0_i32_429 : BitVec 32 := 0#32
  let v547 : BitVec 1 := Scalar.cmpi .slt v543 c0_i32_429
  let v548 : BitVec 1 := Scalar.xori v546 v547
  let c0_i32_427 : BitVec 32 := 0#32
  let v545 : BitVec 1 := Scalar.cmpi .ne v544 c0_i32_427
  let v549 : BitVec 1 := Scalar.andi v548 v545
  let v550 : BitVec 32 := Scalar.addi v544 v543
  let v551 : BitVec 32 := Scalar.select v549 v550 v544
  let c1_i32_432 : BitVec 32 := 1#32
  let v552 : BitVec 32 := Scalar.muli v551 c1_i32_432
  let v553 : BitVec 32 := Scalar.addi c0_i32_433 v552
  v553.toNat
def k0_dev9 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_726 : BitVec 32 := 1#32
  let v914 : BitVec 32 := Scalar.addi v2 c1_i32_726
  let c1_i32_727 : BitVec 32 := 1#32
  let v915 : BitVec 32 := Scalar.addi v914 c1_i32_727
  let c8_i32_728 : BitVec 32 := 8#32
  let c0_i32_729 : BitVec 32 := 0#32
  let v916 : BitVec 1 := Scalar.cmpi .eq c8_i32_728 c0_i32_729
  let c1_i32_730 : BitVec 32 := 1#32
  let v917 : BitVec 32 := Scalar.select v916 c1_i32_730 c8_i32_728
  let v918 : BitVec 32 := Scalar.remsi v915 v917
  let c0_i32_732 : BitVec 32 := 0#32
  let v920 : BitVec 1 := Scalar.cmpi .slt v918 c0_i32_732
  let c0_i32_733 : BitVec 32 := 0#32
  let v921 : BitVec 1 := Scalar.cmpi .slt v917 c0_i32_733
  let v922 : BitVec 1 := Scalar.xori v920 v921
  let c0_i32_731 : BitVec 32 := 0#32
  let v919 : BitVec 1 := Scalar.cmpi .ne v918 c0_i32_731
  let v923 : BitVec 1 := Scalar.andi v922 v919
  let v924 : BitVec 32 := Scalar.addi v918 v917
  let v925 : BitVec 32 := Scalar.select v923 v924 v918
  let c1_i32_736 : BitVec 32 := 1#32
  let v926 : BitVec 32 := Scalar.muli v925 c1_i32_736
  let v927 : BitVec 32 := Scalar.addi c0_i32_737 v926
  v927.toNat
def k0_dev10 (d0 : Dev nD) : Nat :=
  let c0_i32_1040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1029 : BitVec 32 := 1#32
  let v1288 : BitVec 32 := Scalar.addi v2 c1_i32_1029
  let c2_i32_1030 : BitVec 32 := 2#32
  let v1289 : BitVec 32 := Scalar.addi v1288 c2_i32_1030
  let c8_i32_1031 : BitVec 32 := 8#32
  let c0_i32_1032 : BitVec 32 := 0#32
  let v1290 : BitVec 1 := Scalar.cmpi .eq c8_i32_1031 c0_i32_1032
  let c1_i32_1033 : BitVec 32 := 1#32
  let v1291 : BitVec 32 := Scalar.select v1290 c1_i32_1033 c8_i32_1031
  let v1292 : BitVec 32 := Scalar.remsi v1289 v1291
  let c0_i32_1035 : BitVec 32 := 0#32
  let v1294 : BitVec 1 := Scalar.cmpi .slt v1292 c0_i32_1035
  let c0_i32_1036 : BitVec 32 := 0#32
  let v1295 : BitVec 1 := Scalar.cmpi .slt v1291 c0_i32_1036
  let v1296 : BitVec 1 := Scalar.xori v1294 v1295
  let c0_i32_1034 : BitVec 32 := 0#32
  let v1293 : BitVec 1 := Scalar.cmpi .ne v1292 c0_i32_1034
  let v1297 : BitVec 1 := Scalar.andi v1296 v1293
  let v1298 : BitVec 32 := Scalar.addi v1292 v1291
  let v1299 : BitVec 32 := Scalar.select v1297 v1298 v1292
  let c1_i32_1039 : BitVec 32 := 1#32
  let v1300 : BitVec 32 := Scalar.muli v1299 c1_i32_1039
  let v1301 : BitVec 32 := Scalar.addi c0_i32_1040 v1300
  v1301.toNat
def k0_dev11 (d0 : Dev nD) : Nat :=
  let c0_i32_1343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1332 : BitVec 32 := 1#32
  let v1662 : BitVec 32 := Scalar.addi v2 c1_i32_1332
  let c3_i32_1333 : BitVec 32 := 3#32
  let v1663 : BitVec 32 := Scalar.addi v1662 c3_i32_1333
  let c8_i32_1334 : BitVec 32 := 8#32
  let c0_i32_1335 : BitVec 32 := 0#32
  let v1664 : BitVec 1 := Scalar.cmpi .eq c8_i32_1334 c0_i32_1335
  let c1_i32_1336 : BitVec 32 := 1#32
  let v1665 : BitVec 32 := Scalar.select v1664 c1_i32_1336 c8_i32_1334
  let v1666 : BitVec 32 := Scalar.remsi v1663 v1665
  let c0_i32_1338 : BitVec 32 := 0#32
  let v1668 : BitVec 1 := Scalar.cmpi .slt v1666 c0_i32_1338
  let c0_i32_1339 : BitVec 32 := 0#32
  let v1669 : BitVec 1 := Scalar.cmpi .slt v1665 c0_i32_1339
  let v1670 : BitVec 1 := Scalar.xori v1668 v1669
  let c0_i32_1337 : BitVec 32 := 0#32
  let v1667 : BitVec 1 := Scalar.cmpi .ne v1666 c0_i32_1337
  let v1671 : BitVec 1 := Scalar.andi v1670 v1667
  let v1672 : BitVec 32 := Scalar.addi v1666 v1665
  let v1673 : BitVec 32 := Scalar.select v1671 v1672 v1666
  let c1_i32_1342 : BitVec 32 := 1#32
  let v1674 : BitVec 32 := Scalar.muli v1673 c1_i32_1342
  let v1675 : BitVec 32 := Scalar.addi c0_i32_1343 v1674
  v1675.toNat
def k0_dev12 (d0 : Dev nD) : Nat :=
  let c0_i32_1646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1635 : BitVec 32 := 1#32
  let v2036 : BitVec 32 := Scalar.addi v2 c1_i32_1635
  let c4_i32_1636 : BitVec 32 := 4#32
  let v2037 : BitVec 32 := Scalar.addi v2036 c4_i32_1636
  let c8_i32_1637 : BitVec 32 := 8#32
  let c0_i32_1638 : BitVec 32 := 0#32
  let v2038 : BitVec 1 := Scalar.cmpi .eq c8_i32_1637 c0_i32_1638
  let c1_i32_1639 : BitVec 32 := 1#32
  let v2039 : BitVec 32 := Scalar.select v2038 c1_i32_1639 c8_i32_1637
  let v2040 : BitVec 32 := Scalar.remsi v2037 v2039
  let c0_i32_1641 : BitVec 32 := 0#32
  let v2042 : BitVec 1 := Scalar.cmpi .slt v2040 c0_i32_1641
  let c0_i32_1642 : BitVec 32 := 0#32
  let v2043 : BitVec 1 := Scalar.cmpi .slt v2039 c0_i32_1642
  let v2044 : BitVec 1 := Scalar.xori v2042 v2043
  let c0_i32_1640 : BitVec 32 := 0#32
  let v2041 : BitVec 1 := Scalar.cmpi .ne v2040 c0_i32_1640
  let v2045 : BitVec 1 := Scalar.andi v2044 v2041
  let v2046 : BitVec 32 := Scalar.addi v2040 v2039
  let v2047 : BitVec 32 := Scalar.select v2045 v2046 v2040
  let c1_i32_1645 : BitVec 32 := 1#32
  let v2048 : BitVec 32 := Scalar.muli v2047 c1_i32_1645
  let v2049 : BitVec 32 := Scalar.addi c0_i32_1646 v2048
  v2049.toNat
def k0_dev13 (d0 : Dev nD) : Nat :=
  let c0_i32_1949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1938 : BitVec 32 := 1#32
  let v2410 : BitVec 32 := Scalar.addi v2 c1_i32_1938
  let c5_i32_1939 : BitVec 32 := 5#32
  let v2411 : BitVec 32 := Scalar.addi v2410 c5_i32_1939
  let c8_i32_1940 : BitVec 32 := 8#32
  let c0_i32_1941 : BitVec 32 := 0#32
  let v2412 : BitVec 1 := Scalar.cmpi .eq c8_i32_1940 c0_i32_1941
  let c1_i32_1942 : BitVec 32 := 1#32
  let v2413 : BitVec 32 := Scalar.select v2412 c1_i32_1942 c8_i32_1940
  let v2414 : BitVec 32 := Scalar.remsi v2411 v2413
  let c0_i32_1944 : BitVec 32 := 0#32
  let v2416 : BitVec 1 := Scalar.cmpi .slt v2414 c0_i32_1944
  let c0_i32_1945 : BitVec 32 := 0#32
  let v2417 : BitVec 1 := Scalar.cmpi .slt v2413 c0_i32_1945
  let v2418 : BitVec 1 := Scalar.xori v2416 v2417
  let c0_i32_1943 : BitVec 32 := 0#32
  let v2415 : BitVec 1 := Scalar.cmpi .ne v2414 c0_i32_1943
  let v2419 : BitVec 1 := Scalar.andi v2418 v2415
  let v2420 : BitVec 32 := Scalar.addi v2414 v2413
  let v2421 : BitVec 32 := Scalar.select v2419 v2420 v2414
  let c1_i32_1948 : BitVec 32 := 1#32
  let v2422 : BitVec 32 := Scalar.muli v2421 c1_i32_1948
  let v2423 : BitVec 32 := Scalar.addi c0_i32_1949 v2422
  v2423.toNat
def k0_dev14 (d0 : Dev nD) : Nat :=
  let c0_i32_2252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2241 : BitVec 32 := 1#32
  let v2784 : BitVec 32 := Scalar.addi v2 c1_i32_2241
  let c6_i32_2242 : BitVec 32 := 6#32
  let v2785 : BitVec 32 := Scalar.addi v2784 c6_i32_2242
  let c8_i32_2243 : BitVec 32 := 8#32
  let c0_i32_2244 : BitVec 32 := 0#32
  let v2786 : BitVec 1 := Scalar.cmpi .eq c8_i32_2243 c0_i32_2244
  let c1_i32_2245 : BitVec 32 := 1#32
  let v2787 : BitVec 32 := Scalar.select v2786 c1_i32_2245 c8_i32_2243
  let v2788 : BitVec 32 := Scalar.remsi v2785 v2787
  let c0_i32_2247 : BitVec 32 := 0#32
  let v2790 : BitVec 1 := Scalar.cmpi .slt v2788 c0_i32_2247
  let c0_i32_2248 : BitVec 32 := 0#32
  let v2791 : BitVec 1 := Scalar.cmpi .slt v2787 c0_i32_2248
  let v2792 : BitVec 1 := Scalar.xori v2790 v2791
  let c0_i32_2246 : BitVec 32 := 0#32
  let v2789 : BitVec 1 := Scalar.cmpi .ne v2788 c0_i32_2246
  let v2793 : BitVec 1 := Scalar.andi v2792 v2789
  let v2794 : BitVec 32 := Scalar.addi v2788 v2787
  let v2795 : BitVec 32 := Scalar.select v2793 v2794 v2788
  let c1_i32_2251 : BitVec 32 := 1#32
  let v2796 : BitVec 32 := Scalar.muli v2795 c1_i32_2251
  let v2797 : BitVec 32 := Scalar.addi c0_i32_2252 v2796
  v2797.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2485 : BitVec 32 := 0#32
  ![v2.toNat, 0]
def k0_dev15 (d0 : Dev nD) : Nat :=
  let c0_i32_2496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2486 : BitVec 32 := 1#32
  let v3091 : BitVec 32 := Scalar.addi v2 c1_i32_2486
  let c0_i32_2487 : BitVec 32 := 0#32
  let v3092 : BitVec 32 := Scalar.addi v3091 c0_i32_2487
  let c8_i32_2488 : BitVec 32 := 8#32
  let c0_i32_2489 : BitVec 32 := 0#32
  let v3093 : BitVec 1 := Scalar.cmpi .eq c8_i32_2488 c0_i32_2489
  let c1_i32_2490 : BitVec 32 := 1#32
  let v3094 : BitVec 32 := Scalar.select v3093 c1_i32_2490 c8_i32_2488
  let v3095 : BitVec 32 := Scalar.remsi v3092 v3094
  let c0_i32_2492 : BitVec 32 := 0#32
  let v3097 : BitVec 1 := Scalar.cmpi .slt v3095 c0_i32_2492
  let c0_i32_2493 : BitVec 32 := 0#32
  let v3098 : BitVec 1 := Scalar.cmpi .slt v3094 c0_i32_2493
  let v3099 : BitVec 1 := Scalar.xori v3097 v3098
  let c0_i32_2491 : BitVec 32 := 0#32
  let v3096 : BitVec 1 := Scalar.cmpi .ne v3095 c0_i32_2491
  let v3100 : BitVec 1 := Scalar.andi v3099 v3096
  let v3101 : BitVec 32 := Scalar.addi v3095 v3094
  let v3102 : BitVec 32 := Scalar.select v3100 v3101 v3095
  let c1_i32_2495 : BitVec 32 := 1#32
  let v3103 : BitVec 32 := Scalar.muli v3102 c1_i32_2495
  let v3104 : BitVec 32 := Scalar.addi c0_i32_2496 v3103
  v3104.toNat
def k0_dev16 (d0 : Dev nD) : Nat :=
  let c0_i32_2508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2498 : BitVec 32 := 1#32
  let v3110 : BitVec 32 := Scalar.addi v2 c1_i32_2498
  let c1_i32_2499 : BitVec 32 := 1#32
  let v3111 : BitVec 32 := Scalar.addi v3110 c1_i32_2499
  let c8_i32_2500 : BitVec 32 := 8#32
  let c0_i32_2501 : BitVec 32 := 0#32
  let v3112 : BitVec 1 := Scalar.cmpi .eq c8_i32_2500 c0_i32_2501
  let c1_i32_2502 : BitVec 32 := 1#32
  let v3113 : BitVec 32 := Scalar.select v3112 c1_i32_2502 c8_i32_2500
  let v3114 : BitVec 32 := Scalar.remsi v3111 v3113
  let c0_i32_2504 : BitVec 32 := 0#32
  let v3116 : BitVec 1 := Scalar.cmpi .slt v3114 c0_i32_2504
  let c0_i32_2505 : BitVec 32 := 0#32
  let v3117 : BitVec 1 := Scalar.cmpi .slt v3113 c0_i32_2505
  let v3118 : BitVec 1 := Scalar.xori v3116 v3117
  let c0_i32_2503 : BitVec 32 := 0#32
  let v3115 : BitVec 1 := Scalar.cmpi .ne v3114 c0_i32_2503
  let v3119 : BitVec 1 := Scalar.andi v3118 v3115
  let v3120 : BitVec 32 := Scalar.addi v3114 v3113
  let v3121 : BitVec 32 := Scalar.select v3119 v3120 v3114
  let c1_i32_2507 : BitVec 32 := 1#32
  let v3122 : BitVec 32 := Scalar.muli v3121 c1_i32_2507
  let v3123 : BitVec 32 := Scalar.addi c0_i32_2508 v3122
  v3123.toNat
def k0_dev17 (d0 : Dev nD) : Nat :=
  let c0_i32_2520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2510 : BitVec 32 := 1#32
  let v3129 : BitVec 32 := Scalar.addi v2 c1_i32_2510
  let c2_i32_2511 : BitVec 32 := 2#32
  let v3130 : BitVec 32 := Scalar.addi v3129 c2_i32_2511
  let c8_i32_2512 : BitVec 32 := 8#32
  let c0_i32_2513 : BitVec 32 := 0#32
  let v3131 : BitVec 1 := Scalar.cmpi .eq c8_i32_2512 c0_i32_2513
  let c1_i32_2514 : BitVec 32 := 1#32
  let v3132 : BitVec 32 := Scalar.select v3131 c1_i32_2514 c8_i32_2512
  let v3133 : BitVec 32 := Scalar.remsi v3130 v3132
  let c0_i32_2516 : BitVec 32 := 0#32
  let v3135 : BitVec 1 := Scalar.cmpi .slt v3133 c0_i32_2516
  let c0_i32_2517 : BitVec 32 := 0#32
  let v3136 : BitVec 1 := Scalar.cmpi .slt v3132 c0_i32_2517
  let v3137 : BitVec 1 := Scalar.xori v3135 v3136
  let c0_i32_2515 : BitVec 32 := 0#32
  let v3134 : BitVec 1 := Scalar.cmpi .ne v3133 c0_i32_2515
  let v3138 : BitVec 1 := Scalar.andi v3137 v3134
  let v3139 : BitVec 32 := Scalar.addi v3133 v3132
  let v3140 : BitVec 32 := Scalar.select v3138 v3139 v3133
  let c1_i32_2519 : BitVec 32 := 1#32
  let v3141 : BitVec 32 := Scalar.muli v3140 c1_i32_2519
  let v3142 : BitVec 32 := Scalar.addi c0_i32_2520 v3141
  v3142.toNat
def k0_dev18 (d0 : Dev nD) : Nat :=
  let c0_i32_2532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2522 : BitVec 32 := 1#32
  let v3148 : BitVec 32 := Scalar.addi v2 c1_i32_2522
  let c3_i32_2523 : BitVec 32 := 3#32
  let v3149 : BitVec 32 := Scalar.addi v3148 c3_i32_2523
  let c8_i32_2524 : BitVec 32 := 8#32
  let c0_i32_2525 : BitVec 32 := 0#32
  let v3150 : BitVec 1 := Scalar.cmpi .eq c8_i32_2524 c0_i32_2525
  let c1_i32_2526 : BitVec 32 := 1#32
  let v3151 : BitVec 32 := Scalar.select v3150 c1_i32_2526 c8_i32_2524
  let v3152 : BitVec 32 := Scalar.remsi v3149 v3151
  let c0_i32_2528 : BitVec 32 := 0#32
  let v3154 : BitVec 1 := Scalar.cmpi .slt v3152 c0_i32_2528
  let c0_i32_2529 : BitVec 32 := 0#32
  let v3155 : BitVec 1 := Scalar.cmpi .slt v3151 c0_i32_2529
  let v3156 : BitVec 1 := Scalar.xori v3154 v3155
  let c0_i32_2527 : BitVec 32 := 0#32
  let v3153 : BitVec 1 := Scalar.cmpi .ne v3152 c0_i32_2527
  let v3157 : BitVec 1 := Scalar.andi v3156 v3153
  let v3158 : BitVec 32 := Scalar.addi v3152 v3151
  let v3159 : BitVec 32 := Scalar.select v3157 v3158 v3152
  let c1_i32_2531 : BitVec 32 := 1#32
  let v3160 : BitVec 32 := Scalar.muli v3159 c1_i32_2531
  let v3161 : BitVec 32 := Scalar.addi c0_i32_2532 v3160
  v3161.toNat
def k0_dev19 (d0 : Dev nD) : Nat :=
  let c0_i32_2544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2534 : BitVec 32 := 1#32
  let v3167 : BitVec 32 := Scalar.addi v2 c1_i32_2534
  let c4_i32_2535 : BitVec 32 := 4#32
  let v3168 : BitVec 32 := Scalar.addi v3167 c4_i32_2535
  let c8_i32_2536 : BitVec 32 := 8#32
  let c0_i32_2537 : BitVec 32 := 0#32
  let v3169 : BitVec 1 := Scalar.cmpi .eq c8_i32_2536 c0_i32_2537
  let c1_i32_2538 : BitVec 32 := 1#32
  let v3170 : BitVec 32 := Scalar.select v3169 c1_i32_2538 c8_i32_2536
  let v3171 : BitVec 32 := Scalar.remsi v3168 v3170
  let c0_i32_2540 : BitVec 32 := 0#32
  let v3173 : BitVec 1 := Scalar.cmpi .slt v3171 c0_i32_2540
  let c0_i32_2541 : BitVec 32 := 0#32
  let v3174 : BitVec 1 := Scalar.cmpi .slt v3170 c0_i32_2541
  let v3175 : BitVec 1 := Scalar.xori v3173 v3174
  let c0_i32_2539 : BitVec 32 := 0#32
  let v3172 : BitVec 1 := Scalar.cmpi .ne v3171 c0_i32_2539
  let v3176 : BitVec 1 := Scalar.andi v3175 v3172
  let v3177 : BitVec 32 := Scalar.addi v3171 v3170
  let v3178 : BitVec 32 := Scalar.select v3176 v3177 v3171
  let c1_i32_2543 : BitVec 32 := 1#32
  let v3179 : BitVec 32 := Scalar.muli v3178 c1_i32_2543
  let v3180 : BitVec 32 := Scalar.addi c0_i32_2544 v3179
  v3180.toNat
def k0_dev20 (d0 : Dev nD) : Nat :=
  let c0_i32_2556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2546 : BitVec 32 := 1#32
  let v3186 : BitVec 32 := Scalar.addi v2 c1_i32_2546
  let c5_i32_2547 : BitVec 32 := 5#32
  let v3187 : BitVec 32 := Scalar.addi v3186 c5_i32_2547
  let c8_i32_2548 : BitVec 32 := 8#32
  let c0_i32_2549 : BitVec 32 := 0#32
  let v3188 : BitVec 1 := Scalar.cmpi .eq c8_i32_2548 c0_i32_2549
  let c1_i32_2550 : BitVec 32 := 1#32
  let v3189 : BitVec 32 := Scalar.select v3188 c1_i32_2550 c8_i32_2548
  let v3190 : BitVec 32 := Scalar.remsi v3187 v3189
  let c0_i32_2552 : BitVec 32 := 0#32
  let v3192 : BitVec 1 := Scalar.cmpi .slt v3190 c0_i32_2552
  let c0_i32_2553 : BitVec 32 := 0#32
  let v3193 : BitVec 1 := Scalar.cmpi .slt v3189 c0_i32_2553
  let v3194 : BitVec 1 := Scalar.xori v3192 v3193
  let c0_i32_2551 : BitVec 32 := 0#32
  let v3191 : BitVec 1 := Scalar.cmpi .ne v3190 c0_i32_2551
  let v3195 : BitVec 1 := Scalar.andi v3194 v3191
  let v3196 : BitVec 32 := Scalar.addi v3190 v3189
  let v3197 : BitVec 32 := Scalar.select v3195 v3196 v3190
  let c1_i32_2555 : BitVec 32 := 1#32
  let v3198 : BitVec 32 := Scalar.muli v3197 c1_i32_2555
  let v3199 : BitVec 32 := Scalar.addi c0_i32_2556 v3198
  v3199.toNat
def k0_dev21 (d0 : Dev nD) : Nat :=
  let c0_i32_2568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2558 : BitVec 32 := 1#32
  let v3205 : BitVec 32 := Scalar.addi v2 c1_i32_2558
  let c6_i32_2559 : BitVec 32 := 6#32
  let v3206 : BitVec 32 := Scalar.addi v3205 c6_i32_2559
  let c8_i32_2560 : BitVec 32 := 8#32
  let c0_i32_2561 : BitVec 32 := 0#32
  let v3207 : BitVec 1 := Scalar.cmpi .eq c8_i32_2560 c0_i32_2561
  let c1_i32_2562 : BitVec 32 := 1#32
  let v3208 : BitVec 32 := Scalar.select v3207 c1_i32_2562 c8_i32_2560
  let v3209 : BitVec 32 := Scalar.remsi v3206 v3208
  let c0_i32_2564 : BitVec 32 := 0#32
  let v3211 : BitVec 1 := Scalar.cmpi .slt v3209 c0_i32_2564
  let c0_i32_2565 : BitVec 32 := 0#32
  let v3212 : BitVec 1 := Scalar.cmpi .slt v3208 c0_i32_2565
  let v3213 : BitVec 1 := Scalar.xori v3211 v3212
  let c0_i32_2563 : BitVec 32 := 0#32
  let v3210 : BitVec 1 := Scalar.cmpi .ne v3209 c0_i32_2563
  let v3214 : BitVec 1 := Scalar.andi v3213 v3210
  let v3215 : BitVec 32 := Scalar.addi v3209 v3208
  let v3216 : BitVec 32 := Scalar.select v3214 v3215 v3209
  let c1_i32_2567 : BitVec 32 := 1#32
  let v3217 : BitVec 32 := Scalar.muli v3216 c1_i32_2567
  let v3218 : BitVec 32 := Scalar.addi c0_i32_2568 v3217
  v3218.toNat
def k0_dev22 (d0 : Dev nD) : Nat :=
  let c0_i32_2787_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2777_r0 : BitVec 32 := 1#32
  let v3488_r0 : BitVec 32 := Scalar.addi v2 c1_i32_2777_r0
  let c0_i32_2778_r0 : BitVec 32 := 0#32
  let v3489_r0 : BitVec 32 := Scalar.addi v3488_r0 c0_i32_2778_r0
  let c8_i32_2779_r0 : BitVec 32 := 8#32
  let c0_i32_2780_r0 : BitVec 32 := 0#32
  let v3490_r0 : BitVec 1 := Scalar.cmpi .eq c8_i32_2779_r0 c0_i32_2780_r0
  let c1_i32_2781_r0 : BitVec 32 := 1#32
  let v3491_r0 : BitVec 32 := Scalar.select v3490_r0 c1_i32_2781_r0 c8_i32_2779_r0
  let v3492_r0 : BitVec 32 := Scalar.remsi v3489_r0 v3491_r0
  let c0_i32_2783_r0 : BitVec 32 := 0#32
  let v3494_r0 : BitVec 1 := Scalar.cmpi .slt v3492_r0 c0_i32_2783_r0
  let c0_i32_2784_r0 : BitVec 32 := 0#32
  let v3495_r0 : BitVec 1 := Scalar.cmpi .slt v3491_r0 c0_i32_2784_r0
  let v3496_r0 : BitVec 1 := Scalar.xori v3494_r0 v3495_r0
  let c0_i32_2782_r0 : BitVec 32 := 0#32
  let v3493_r0 : BitVec 1 := Scalar.cmpi .ne v3492_r0 c0_i32_2782_r0
  let v3497_r0 : BitVec 1 := Scalar.andi v3496_r0 v3493_r0
  let v3498_r0 : BitVec 32 := Scalar.addi v3492_r0 v3491_r0
  let v3499_r0 : BitVec 32 := Scalar.select v3497_r0 v3498_r0 v3492_r0
  let c1_i32_2786_r0 : BitVec 32 := 1#32
  let v3500_r0 : BitVec 32 := Scalar.muli v3499_r0 c1_i32_2786_r0
  let v3501_r0 : BitVec 32 := Scalar.addi c0_i32_2787_r0 v3500_r0
  v3501_r0.toNat
def k0_dev23 (d0 : Dev nD) : Nat :=
  let c0_i32_2798_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2788_r0 : BitVec 32 := 1#32
  let v3502_r0 : BitVec 32 := Scalar.addi v2 c1_i32_2788_r0
  let c1_i32_2789_r0 : BitVec 32 := 1#32
  let v3503_r0 : BitVec 32 := Scalar.addi v3502_r0 c1_i32_2789_r0
  let c8_i32_2790_r0 : BitVec 32 := 8#32
  let c0_i32_2791_r0 : BitVec 32 := 0#32
  let v3504_r0 : BitVec 1 := Scalar.cmpi .eq c8_i32_2790_r0 c0_i32_2791_r0
  let c1_i32_2792_r0 : BitVec 32 := 1#32
  let v3505_r0 : BitVec 32 := Scalar.select v3504_r0 c1_i32_2792_r0 c8_i32_2790_r0
  let v3506_r0 : BitVec 32 := Scalar.remsi v3503_r0 v3505_r0
  let c0_i32_2794_r0 : BitVec 32 := 0#32
  let v3508_r0 : BitVec 1 := Scalar.cmpi .slt v3506_r0 c0_i32_2794_r0
  let c0_i32_2795_r0 : BitVec 32 := 0#32
  let v3509_r0 : BitVec 1 := Scalar.cmpi .slt v3505_r0 c0_i32_2795_r0
  let v3510_r0 : BitVec 1 := Scalar.xori v3508_r0 v3509_r0
  let c0_i32_2793_r0 : BitVec 32 := 0#32
  let v3507_r0 : BitVec 1 := Scalar.cmpi .ne v3506_r0 c0_i32_2793_r0
  let v3511_r0 : BitVec 1 := Scalar.andi v3510_r0 v3507_r0
  let v3512_r0 : BitVec 32 := Scalar.addi v3506_r0 v3505_r0
  let v3513_r0 : BitVec 32 := Scalar.select v3511_r0 v3512_r0 v3506_r0
  let c1_i32_2797_r0 : BitVec 32 := 1#32
  let v3514_r0 : BitVec 32 := Scalar.muli v3513_r0 c1_i32_2797_r0
  let v3515_r0 : BitVec 32 := Scalar.addi c0_i32_2798_r0 v3514_r0
  v3515_r0.toNat
def k0_dev24 (d0 : Dev nD) : Nat :=
  let c0_i32_2809_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2799_r0 : BitVec 32 := 1#32
  let v3516_r0 : BitVec 32 := Scalar.addi v2 c1_i32_2799_r0
  let c2_i32_2800_r0 : BitVec 32 := 2#32
  let v3517_r0 : BitVec 32 := Scalar.addi v3516_r0 c2_i32_2800_r0
  let c8_i32_2801_r0 : BitVec 32 := 8#32
  let c0_i32_2802_r0 : BitVec 32 := 0#32
  let v3518_r0 : BitVec 1 := Scalar.cmpi .eq c8_i32_2801_r0 c0_i32_2802_r0
  let c1_i32_2803_r0 : BitVec 32 := 1#32
  let v3519_r0 : BitVec 32 := Scalar.select v3518_r0 c1_i32_2803_r0 c8_i32_2801_r0
  let v3520_r0 : BitVec 32 := Scalar.remsi v3517_r0 v3519_r0
  let c0_i32_2805_r0 : BitVec 32 := 0#32
  let v3522_r0 : BitVec 1 := Scalar.cmpi .slt v3520_r0 c0_i32_2805_r0
  let c0_i32_2806_r0 : BitVec 32 := 0#32
  let v3523_r0 : BitVec 1 := Scalar.cmpi .slt v3519_r0 c0_i32_2806_r0
  let v3524_r0 : BitVec 1 := Scalar.xori v3522_r0 v3523_r0
  let c0_i32_2804_r0 : BitVec 32 := 0#32
  let v3521_r0 : BitVec 1 := Scalar.cmpi .ne v3520_r0 c0_i32_2804_r0
  let v3525_r0 : BitVec 1 := Scalar.andi v3524_r0 v3521_r0
  let v3526_r0 : BitVec 32 := Scalar.addi v3520_r0 v3519_r0
  let v3527_r0 : BitVec 32 := Scalar.select v3525_r0 v3526_r0 v3520_r0
  let c1_i32_2808_r0 : BitVec 32 := 1#32
  let v3528_r0 : BitVec 32 := Scalar.muli v3527_r0 c1_i32_2808_r0
  let v3529_r0 : BitVec 32 := Scalar.addi c0_i32_2809_r0 v3528_r0
  v3529_r0.toNat
def k0_dev25 (d0 : Dev nD) : Nat :=
  let c0_i32_2820_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2810_r0 : BitVec 32 := 1#32
  let v3530_r0 : BitVec 32 := Scalar.addi v2 c1_i32_2810_r0
  let c3_i32_2811_r0 : BitVec 32 := 3#32
  let v3531_r0 : BitVec 32 := Scalar.addi v3530_r0 c3_i32_2811_r0
  let c8_i32_2812_r0 : BitVec 32 := 8#32
  let c0_i32_2813_r0 : BitVec 32 := 0#32
  let v3532_r0 : BitVec 1 := Scalar.cmpi .eq c8_i32_2812_r0 c0_i32_2813_r0
  let c1_i32_2814_r0 : BitVec 32 := 1#32
  let v3533_r0 : BitVec 32 := Scalar.select v3532_r0 c1_i32_2814_r0 c8_i32_2812_r0
  let v3534_r0 : BitVec 32 := Scalar.remsi v3531_r0 v3533_r0
  let c0_i32_2816_r0 : BitVec 32 := 0#32
  let v3536_r0 : BitVec 1 := Scalar.cmpi .slt v3534_r0 c0_i32_2816_r0
  let c0_i32_2817_r0 : BitVec 32 := 0#32
  let v3537_r0 : BitVec 1 := Scalar.cmpi .slt v3533_r0 c0_i32_2817_r0
  let v3538_r0 : BitVec 1 := Scalar.xori v3536_r0 v3537_r0
  let c0_i32_2815_r0 : BitVec 32 := 0#32
  let v3535_r0 : BitVec 1 := Scalar.cmpi .ne v3534_r0 c0_i32_2815_r0
  let v3539_r0 : BitVec 1 := Scalar.andi v3538_r0 v3535_r0
  let v3540_r0 : BitVec 32 := Scalar.addi v3534_r0 v3533_r0
  let v3541_r0 : BitVec 32 := Scalar.select v3539_r0 v3540_r0 v3534_r0
  let c1_i32_2819_r0 : BitVec 32 := 1#32
  let v3542_r0 : BitVec 32 := Scalar.muli v3541_r0 c1_i32_2819_r0
  let v3543_r0 : BitVec 32 := Scalar.addi c0_i32_2820_r0 v3542_r0
  v3543_r0.toNat
def k0_dev26 (d0 : Dev nD) : Nat :=
  let c0_i32_2831_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2821_r0 : BitVec 32 := 1#32
  let v3544_r0 : BitVec 32 := Scalar.addi v2 c1_i32_2821_r0
  let c4_i32_2822_r0 : BitVec 32 := 4#32
  let v3545_r0 : BitVec 32 := Scalar.addi v3544_r0 c4_i32_2822_r0
  let c8_i32_2823_r0 : BitVec 32 := 8#32
  let c0_i32_2824_r0 : BitVec 32 := 0#32
  let v3546_r0 : BitVec 1 := Scalar.cmpi .eq c8_i32_2823_r0 c0_i32_2824_r0
  let c1_i32_2825_r0 : BitVec 32 := 1#32
  let v3547_r0 : BitVec 32 := Scalar.select v3546_r0 c1_i32_2825_r0 c8_i32_2823_r0
  let v3548_r0 : BitVec 32 := Scalar.remsi v3545_r0 v3547_r0
  let c0_i32_2827_r0 : BitVec 32 := 0#32
  let v3550_r0 : BitVec 1 := Scalar.cmpi .slt v3548_r0 c0_i32_2827_r0
  let c0_i32_2828_r0 : BitVec 32 := 0#32
  let v3551_r0 : BitVec 1 := Scalar.cmpi .slt v3547_r0 c0_i32_2828_r0
  let v3552_r0 : BitVec 1 := Scalar.xori v3550_r0 v3551_r0
  let c0_i32_2826_r0 : BitVec 32 := 0#32
  let v3549_r0 : BitVec 1 := Scalar.cmpi .ne v3548_r0 c0_i32_2826_r0
  let v3553_r0 : BitVec 1 := Scalar.andi v3552_r0 v3549_r0
  let v3554_r0 : BitVec 32 := Scalar.addi v3548_r0 v3547_r0
  let v3555_r0 : BitVec 32 := Scalar.select v3553_r0 v3554_r0 v3548_r0
  let c1_i32_2830_r0 : BitVec 32 := 1#32
  let v3556_r0 : BitVec 32 := Scalar.muli v3555_r0 c1_i32_2830_r0
  let v3557_r0 : BitVec 32 := Scalar.addi c0_i32_2831_r0 v3556_r0
  v3557_r0.toNat
def k0_dev27 (d0 : Dev nD) : Nat :=
  let c0_i32_2842_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2832_r0 : BitVec 32 := 1#32
  let v3558_r0 : BitVec 32 := Scalar.addi v2 c1_i32_2832_r0
  let c5_i32_2833_r0 : BitVec 32 := 5#32
  let v3559_r0 : BitVec 32 := Scalar.addi v3558_r0 c5_i32_2833_r0
  let c8_i32_2834_r0 : BitVec 32 := 8#32
  let c0_i32_2835_r0 : BitVec 32 := 0#32
  let v3560_r0 : BitVec 1 := Scalar.cmpi .eq c8_i32_2834_r0 c0_i32_2835_r0
  let c1_i32_2836_r0 : BitVec 32 := 1#32
  let v3561_r0 : BitVec 32 := Scalar.select v3560_r0 c1_i32_2836_r0 c8_i32_2834_r0
  let v3562_r0 : BitVec 32 := Scalar.remsi v3559_r0 v3561_r0
  let c0_i32_2838_r0 : BitVec 32 := 0#32
  let v3564_r0 : BitVec 1 := Scalar.cmpi .slt v3562_r0 c0_i32_2838_r0
  let c0_i32_2839_r0 : BitVec 32 := 0#32
  let v3565_r0 : BitVec 1 := Scalar.cmpi .slt v3561_r0 c0_i32_2839_r0
  let v3566_r0 : BitVec 1 := Scalar.xori v3564_r0 v3565_r0
  let c0_i32_2837_r0 : BitVec 32 := 0#32
  let v3563_r0 : BitVec 1 := Scalar.cmpi .ne v3562_r0 c0_i32_2837_r0
  let v3567_r0 : BitVec 1 := Scalar.andi v3566_r0 v3563_r0
  let v3568_r0 : BitVec 32 := Scalar.addi v3562_r0 v3561_r0
  let v3569_r0 : BitVec 32 := Scalar.select v3567_r0 v3568_r0 v3562_r0
  let c1_i32_2841_r0 : BitVec 32 := 1#32
  let v3570_r0 : BitVec 32 := Scalar.muli v3569_r0 c1_i32_2841_r0
  let v3571_r0 : BitVec 32 := Scalar.addi c0_i32_2842_r0 v3570_r0
  v3571_r0.toNat
def k0_dev28 (d0 : Dev nD) : Nat :=
  let c0_i32_2853_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2843_r0 : BitVec 32 := 1#32
  let v3572_r0 : BitVec 32 := Scalar.addi v2 c1_i32_2843_r0
  let c6_i32_2844_r0 : BitVec 32 := 6#32
  let v3573_r0 : BitVec 32 := Scalar.addi v3572_r0 c6_i32_2844_r0
  let c8_i32_2845_r0 : BitVec 32 := 8#32
  let c0_i32_2846_r0 : BitVec 32 := 0#32
  let v3574_r0 : BitVec 1 := Scalar.cmpi .eq c8_i32_2845_r0 c0_i32_2846_r0
  let c1_i32_2847_r0 : BitVec 32 := 1#32
  let v3575_r0 : BitVec 32 := Scalar.select v3574_r0 c1_i32_2847_r0 c8_i32_2845_r0
  let v3576_r0 : BitVec 32 := Scalar.remsi v3573_r0 v3575_r0
  let c0_i32_2849_r0 : BitVec 32 := 0#32
  let v3578_r0 : BitVec 1 := Scalar.cmpi .slt v3576_r0 c0_i32_2849_r0
  let c0_i32_2850_r0 : BitVec 32 := 0#32
  let v3579_r0 : BitVec 1 := Scalar.cmpi .slt v3575_r0 c0_i32_2850_r0
  let v3580_r0 : BitVec 1 := Scalar.xori v3578_r0 v3579_r0
  let c0_i32_2848_r0 : BitVec 32 := 0#32
  let v3577_r0 : BitVec 1 := Scalar.cmpi .ne v3576_r0 c0_i32_2848_r0
  let v3581_r0 : BitVec 1 := Scalar.andi v3580_r0 v3577_r0
  let v3582_r0 : BitVec 32 := Scalar.addi v3576_r0 v3575_r0
  let v3583_r0 : BitVec 32 := Scalar.select v3581_r0 v3582_r0 v3576_r0
  let c1_i32_2852_r0 : BitVec 32 := 1#32
  let v3584_r0 : BitVec 32 := Scalar.muli v3583_r0 c1_i32_2852_r0
  let v3585_r0 : BitVec 32 := Scalar.addi c0_i32_2853_r0 v3584_r0
  v3585_r0.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S4096x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x8192, .f32⟩
  | .hbm, ⟨33, _⟩ => ⟨S4096x8192, .f32⟩
  | .hbm, ⟨34, _⟩ => ⟨S_, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_cst_7 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Proof.Prog.lean ====
/- The kernel body as a structured program. The printed body is straight-line: each device loop of the source appears
   unrolled. Here it is written once more with its loops (over explicit lists of indices), every operation at a symbolic
   index, and proved equal to the printed one. The proof of the run then steps through each loop body once. -/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL.Sem

variable {F : FTy → Type} [FloatOps F]

/-- Programs of the kernel body. -/
abbrev P (F : FTy → Type) (α : Type) := Prog (TpuEff nD τ sig (Elt F) Λ₀ .tc) α

/-- The statements `f a` for the indices `a` of a list, in order. -/
def forL {α : Type} (f : α → P F PUnit) : List α → P F PUnit
  | [] => pure ⟨⟩
  | a :: l => f a >>= fun _ => forL f l

/-! ## The buffers -/

/-- The rows of `x` this device holds. -/
abbrev mX : Memref sig .tc .vmem S512x4096 .f32 := Memref.whole cc0_stg0_0
/-- The whole weight matrix, in HBM. -/
abbrev mW : Memref sig .tc .hbm S4096x8192 .f32 := Memref.whole main_arg1
/-- The output block. -/
abbrev mOut : Memref sig .tc .vmem S4096x1024 .f32 := Memref.whole cc0_stg1_0
/-- `x` in bf16. -/
abbrev mXb : Memref sig .tc .vmem S512x4096 .bf16 := Memref.whole cc0_scratch0
/-- The two weight slots. -/
abbrev mWb : Memref sig .tc .vmem S2x4096x512 .f32 := Memref.whole cc0_scratch1
/-- The eight outgoing code blocks. -/
abbrev mSq : Memref sig .tc .vmem S8x512x1024 .i16 := Memref.whole cc0_scratch2
/-- The eight incoming code blocks. -/
abbrev mRq : Memref sig .tc .vmem S8x512x1024 .i16 := Memref.whole cc0_scratch3
/-- The eight maxima. -/
abbrev mGm : Memref sig .tc .vmem S8x128 .f32 := Memref.whole cc0_scratch4
/-- This device's maximum. -/
abbrev mGs : Memref sig .tc .vmem S1x128 .f32 := Memref.whole cc0_scratch5

/-! ## Boxes in bounds, at a symbolic index -/

theorem inb_wsem : ∀ (h : Fin 2) (r : Fin 4), ∀ a, (![h.val, r.val] : Fin 2 → Nat) a + S1x1.size a ≤ S2x4.size a := by decide +kernel
theorem inb_wdst : ∀ (h : Fin 2) (r : Fin 4), ∀ a, (![h.val, 1024 * r.val, 0] : Fin 3 → Nat) a + S1x1024x512.size a ≤ S2x4096x512.size a := by decide +kernel
theorem inb_wslot : ∀ (h : Fin 2), ∀ a, (![h.val, 0, 0] : Fin 3 → Nat) a + S1x4096x512.size a ≤ S2x4096x512.size a := by decide +kernel
theorem inb_qhalf : ∀ (t : Fin 8) (h : Fin 2), ∀ a, (![t.val, 0, 512 * h.val] : Fin 3 → Nat) a + S1x512x512.size a ≤ S8x512x1024.size a := by decide +kernel
theorem inb_q : ∀ (t : Fin 8), ∀ a, (![t.val, 0, 0] : Fin 3 → Nat) a + S1x512x1024.size a ≤ S8x512x1024.size a := by decide +kernel
theorem inb_s7 : ∀ (p : Fin 7), ∀ a, (![p.val] : Fin 1 → Nat) a + S1.size a ≤ S7.size a := by decide +kernel
theorem inb_s8 : ∀ (s : Fin 8), ∀ a, (![s.val] : Fin 1 → Nat) a + S1.size a ≤ S8.size a := by decide +kernel
theorem inb_g : ∀ (s : Fin 8), ∀ a, (![s.val, 0] : Fin 2 → Nat) a + S1x128.size a ≤ S8x128.size a := by decide +kernel
theorem inb_out : ∀ (s : Fin 8), ∀ a, (![512 * s.val, 0] : Fin 2 → Nat) a + S512x1024.size a ≤ S4096x1024.size a := by decide +kernel
theorem packed_qhalf : ∀ (t : Fin 8) (h : Fin 2), (Rect.unit (s := S8x512x1024) ![t.val, 0, 512 * h.val] S1x512x512.size (inb_qhalf t h)).PackedRows (EltTy.packing .i16) := by decide +kernel
theorem words_q : ∀ (t : Fin 8), (Rect.unit (s := S8x512x1024) ![t.val, 0, 0] S1x512x1024.size (inb_q t)).WholeWords (EltTy.packing .i16) := by decide +kernel

/-- A step among the first seven as one of the eight. -/
abbrev up (t : Fin 7) : Fin 8 := ⟨t.val, Nat.lt_of_lt_of_le t.isLt (by decide)⟩

/-! ## Views and semaphores at a symbolic index -/

/-- Row group `r` of weight slot `h`. -/
def vWdst (h : Fin 2) (r : Fin 4) : Memref sig .tc .vmem S1024x512 .f32 :=
  (mWb.slice (Rect.unit (s := S2x4096x512) ![h.val, 1024 * r.val, 0] S1x1024x512.size (inb_wdst h r)) (fun _ => rfl)).squeeze S1024x512 squeezes_S1x1024x512_S1024x512
/-- Row group `r` of the weight columns block `(t, h)` of device `d` reads. -/
def vWsrc (d : Dev nD) (t : Fin 8) (h : Fin 2) : ℕ → Memref sig .tc .hbm S1024x512 .f32
  | 0 => mW.slice (Rect.unit (s := S4096x8192) (k0_off1 d (BitVec.ofNat 32 t.val) (BitVec.ofNat 32 (512 * h.val))) S1024x512.size (k0_off1_inb d t h)) (fun _ => rfl)
  | 1 => mW.slice (Rect.unit (s := S4096x8192) (k0_off2 d (BitVec.ofNat 32 t.val) (BitVec.ofNat 32 (512 * h.val))) S1024x512.size (k0_off2_inb d t h)) (fun _ => rfl)
  | 2 => mW.slice (Rect.unit (s := S4096x8192) (k0_off3 d (BitVec.ofNat 32 t.val) (BitVec.ofNat 32 (512 * h.val))) S1024x512.size (k0_off3_inb d t h)) (fun _ => rfl)
  | _ => mW.slice (Rect.unit (s := S4096x8192) (k0_off4 d (BitVec.ofNat 32 t.val) (BitVec.ofNat 32 (512 * h.val))) S1024x512.size (k0_off4_inb d t h)) (fun _ => rfl)
/-- Outgoing block `t`. -/
def vSq (t : Fin 8) : Memref sig .tc .vmem S512x1024 .i16 :=
  (mSq.slice (Rect.unit (s := S8x512x1024) ![t.val, 0, 0] S1x512x1024.size (inb_q t)) (fun _ => rfl)).squeeze S512x1024 squeezes_S1x512x1024_S512x1024
/-- Incoming block `s`. -/
def vRq (s : Fin 8) : Memref sig .tc .vmem S512x1024 .i16 :=
  (mRq.slice (Rect.unit (s := S8x512x1024) ![s.val, 0, 0] S1x512x1024.size (inb_q s)) (fun _ => rfl)).squeeze S512x1024 squeezes_S1x512x1024_S512x1024
/-- The incoming block a device's own sends go to, as the program names it. -/
def vRqD (d : Dev nD) : Memref sig .tc .vmem S512x1024 .i16 :=
  (mRq.slice (Rect.unit (s := S8x512x1024) (k0_off6 d) S1x512x1024.size (k0_off6_inb d)) (fun _ => rfl)).squeeze S512x1024 squeezes_S1x512x1024_S512x1024
/-- Row `s` of the maxima. -/
def vGm (s : Fin 8) : Memref sig .tc .vmem S1x128 .f32 :=
  mGm.slice (Rect.unit (s := S8x128) ![s.val, 0] S1x128.size (inb_g s)) (fun _ => rfl)
/-- The row of the maxima a device's own sends go to, as the program names it. -/
def vGmD (d : Dev nD) : Memref sig .tc .vmem S1x128 .f32 :=
  mGm.slice (Rect.unit (s := S8x128) (k0_off7 d) S1x128.size (k0_off7_inb d)) (fun _ => rfl)

/-- The semaphore of row group `r` of weight slot `h`. -/
def sW (h : Fin 2) (r : Fin 4) : DmaSem sig :=
  ((cc0_scratch6.slice (Rect.unit (s := S2x4) ![h.val, r.val] S1x1.size (inb_wsem h r))).squeeze S_ squeezes_S1x1_S_).sem
/-- The send semaphore of code block `t`. -/
def sCs (t : Fin 7) : DmaSem sig := ((cc0_scratch7.slice (Rect.unit (s := S7) ![t.val] S1.size (inb_s7 t))).squeeze S_ squeezes_S1_S_).sem
/-- The receive semaphore of code block `s`. -/
def sCr (s : Fin 8) : DmaSem sig := ((cc0_scratch8.slice (Rect.unit (s := S8) ![s.val] S1.size (inb_s8 s))).squeeze S_ squeezes_S1_S_).sem
/-- The receive semaphore a device's own sends complete on, as the program names it. -/
def sCrD (d : Dev nD) : DmaSem sig := ((cc0_scratch8.slice (Rect.unit (s := S8) (k0_off5 d) S1.size (k0_off5_inb d))).squeeze S_ squeezes_S1_S_).sem
/-- The send semaphore of the maximum's `p`-th copy. -/
def sGs (p : Fin 7) : DmaSem sig := ((cc0_scratch9.slice (Rect.unit (s := S7) ![p.val] S1.size (inb_s7 p))).squeeze S_ squeezes_S1_S_).sem
/-- The receive semaphore of maximum `s`. -/
def sGr (s : Fin 8) : DmaSem sig := ((cc0_scratch10.slice (Rect.unit (s := S8) ![s.val] S1.size (inb_s8 s))).squeeze S_ squeezes_S1_S_).sem
/-- The receive semaphore the copies of a device's maximum complete on, as the program names it. -/
def sGrD (d : Dev nD) : DmaSem sig := ((cc0_scratch10.slice (Rect.unit (s := S8) (k0_off5 d) S1.size (k0_off5_inb d))).squeeze S_ squeezes_S1_S_).sem
/-- The machine-wide barrier semaphore. -/
def sBar : Sem sig := (SemArray.scalar (sig.barrier 0 rfl) : Sems sig S_).sem
/-- The kernel's own barrier semaphore. -/
def sEnd : Sem sig := (cc0_scoped0 : Sems sig S_).sem

/-! ## The devices the program names -/

/-- The device of entry signal `p`. -/
def dBar (d : Dev nD) : Fin 7 → Dev nD
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩
  | 4 => ⟨k0_dev5 d, k0_dev5_lt d⟩ | 5 => ⟨k0_dev6 d, k0_dev6_lt d⟩ | 6 => ⟨k0_dev7 d, k0_dev7_lt d⟩
/-- The device code block `t` goes to. -/
def dCs (d : Dev nD) : Fin 7 → Dev nD
  | 0 => ⟨k0_dev8 d, k0_dev8_lt d⟩ | 1 => ⟨k0_dev9 d, k0_dev9_lt d⟩ | 2 => ⟨k0_dev10 d, k0_dev10_lt d⟩ | 3 => ⟨k0_dev11 d, k0_dev11_lt d⟩
  | 4 => ⟨k0_dev12 d, k0_dev12_lt d⟩ | 5 => ⟨k0_dev13 d, k0_dev13_lt d⟩ | 6 => ⟨k0_dev14 d, k0_dev14_lt d⟩
/-- The device the maximum's `p`-th copy goes to. -/
def dGs (d : Dev nD) : Fin 7 → Dev nD
  | 0 => ⟨k0_dev15 d, k0_dev15_lt d⟩ | 1 => ⟨k0_dev16 d, k0_dev16_lt d⟩ | 2 => ⟨k0_dev17 d, k0_dev17_lt d⟩ | 3 => ⟨k0_dev18 d, k0_dev18_lt d⟩
  | 4 => ⟨k0_dev19 d, k0_dev19_lt d⟩ | 5 => ⟨k0_dev20 d, k0_dev20_lt d⟩ | 6 => ⟨k0_dev21 d, k0_dev21_lt d⟩
/-- The device of exit signal `p`. -/
def dEnd (d : Dev nD) : Fin 7 → Dev nD
  | 0 => ⟨k0_dev22 d, k0_dev22_lt d⟩ | 1 => ⟨k0_dev23 d, k0_dev23_lt d⟩ | 2 => ⟨k0_dev24 d, k0_dev24_lt d⟩ | 3 => ⟨k0_dev25 d, k0_dev25_lt d⟩
  | 4 => ⟨k0_dev26 d, k0_dev26_lt d⟩ | 5 => ⟨k0_dev27 d, k0_dev27_lt d⟩ | 6 => ⟨k0_dev28 d, k0_dev28_lt d⟩

/-! ## The statements -/

/-- Entry signal `p`. -/
def barSig (d : Dev nD) (p : Fin 7) : P F PUnit := semSignalWord (dBar d p) sBar 1#32
/-- Exit signal `p`. -/
def endSig (d : Dev nD) (p : Fin 7) : P F PUnit := semSignalWord (dEnd d p) sEnd 1#32

/-- `x` to bf16; the maximum starts at zero. -/
def prelude : P F PUnit := do
  let v ← Prog.lift (.load mX (Rect.unit (s := S512x4096) ![0, 0] S512x4096.size inb_S512x4096_S512x4096_0_0).toLoadRect (View.loadsAt_vmem h_S512x4096))
  let _ ← Prog.lift (.load mXb (Rect.unit (s := S512x4096) ![0, 0] S512x4096.size inb_S512x4096_S512x4096_0_0).toLoadRect (View.loadsAt_vmem h_S512x4096))
  Prog.lift (.store mXb (Rect.unit (s := S512x4096) ![0, 0] S512x4096.size inb_S512x4096_S512x4096_0_0) (k0_pay1 v) Finset.univ (View.stores_vmem h_S512x4096 ((Memref.isWhole_whole _).storeExact_slice rfl _ packedbf16_S512x4096_S512x4096_0_0) (fun _ => rfl)) (.inl rfl))
  let _ ← Prog.lift (.load mGs (Rect.unit (s := S1x128) ![0, 0] S1x128.size inb_S1x128_S1x128_0_0).toLoadRect (View.loadsAt_vmem h_S1x128))
  Prog.lift (.store mGs (Rect.unit (s := S1x128) ![0, 0] S1x128.size inb_S1x128_S1x128_0_0) k0_pay2 Finset.univ (View.stores_vmem_bits_univ h_S1x128 rfl) (.inl rfl))

/-- The transfer of row group `r` of block `(t, h)`. -/
def startR (d : Dev nD) (t : Fin 8) (h : Fin 2) (r : Fin 4) : P F PUnit :=
  Prog.lift (.enqueueDma (vWsrc d t h r.val) (.here (vWdst h r)) (.dma (sW h r)) (View.wordExact_bits rfl) ((View.wordExact_bits rfl).reshape _ _) ⟨Or.inl rfl, trivial⟩)
/-- The wait for it. -/
def waitR (d : Dev nD) (t : Fin 8) (h : Fin 2) (r : Fin 4) : P F PUnit :=
  Prog.lift (.waitDma2 (sW h r) (vWsrc d t h r.val) (vWdst h r) (View.wordExact_bits rfl) ((View.wordExact_bits rfl).reshape _ _))
/-- The four transfers of a block. -/
def startW (d : Dev nD) (t : Fin 8) (h : Fin 2) : P F PUnit := forL (startR d t h) [0, 1, 2, 3]
/-- The four waits of a block. -/
def waitW (d : Dev nD) (t : Fin 8) (h : Fin 2) : P F PUnit := forL (waitR d t h) [0, 1, 2, 3]

/-- Block `(t, h)`: the product, its maximum, its codes. -/
def compute (t : Fin 8) (h : Fin 2) : P F PUnit := do
  let x ← Prog.lift (.load mXb (Rect.unit (s := S512x4096) ![0, 0] S512x4096.size inb_S512x4096_S512x4096_0_0).toLoadRect (View.loadsAt_vmem h_S512x4096))
  let w ← Prog.lift (.load mWb (Rect.unit (s := S2x4096x512) ![h.val, 0, 0] S1x4096x512.size (inb_wslot h)).toLoadRect (View.loadsAt_vmem h_S1x4096x512))
  let g ← Prog.lift (.load mGs (Rect.unit (s := S1x128) ![0, 0] S1x128.size inb_S1x128_S1x128_0_0).toLoadRect (View.loadsAt_vmem h_S1x128))
  let _ ← Prog.lift (.load mGs (Rect.unit (s := S1x128) ![0, 0] S1x128.size inb_S1x128_S1x128_0_0).toLoadRect (View.loadsAt_vmem h_S1x128))
  Prog.lift (.store mGs (Rect.unit (s := S1x128) ![0, 0] S1x128.size inb_S1x128_S1x128_0_0) (k0_pay4 (k0_pay3 x w) g) Finset.univ (View.stores_vmem_bits_univ h_S1x128 rfl) (.inl rfl))
  let _ ← Prog.lift (.load mSq (Rect.unit (s := S8x512x1024) ![t.val, 0, 512 * h.val] S1x512x512.size (inb_qhalf t h)).toLoadRect (View.loadsAt_vmem h_S1x512x512))
  Prog.lift (.store mSq (Rect.unit (s := S8x512x1024) ![t.val, 0, 512 * h.val] S1x512x512.size (inb_qhalf t h)) (k0_pay5 (k0_pay3 x w)) Finset.univ (View.stores_vmem h_S1x512x512 ((Memref.isWhole_whole _).storeExact_slice rfl _ (packed_qhalf t h)) (fun _ => rfl)) (.inl rfl))

/-- Code block `t` to its device. -/
def sendC (d : Dev nD) (t : Fin 7) : P F PUnit :=
  Prog.lift (.enqueueDma (vSq (up t)) (.remote (Dev.tc (dCs d t)) (vRqD d) (.dma (sCs t))) (.dma (sCrD d)) (((Memref.isWhole_whole _).wordExact_slice rfl _ (words_q (up t))).reshape _ _) (((Memref.isWhole_whole _).wordExact_slice rfl _ (k0_off6_wordsi16 d)).reshape _ _) ⟨⟨rfl, Or.inl rfl⟩, trivial⟩)

/-- Step `t` of the first seven: two blocks, then the send. -/
def step (d : Dev nD) (t : Fin 7) : P F PUnit := do
  startW d (up t) 1
  waitW d (up t) 0
  compute (up t) 0
  startW d (t.succ) 0
  waitW d (up t) 1
  compute (up t) 1
  sendC d t

/-- The last step: two blocks, then the device's own block is copied in place. -/
def lastStep (d : Dev nD) : P F PUnit := do
  startW d 7 1
  waitW d 7 0
  compute 7 0
  waitW d 7 1
  compute 7 1
  Prog.lift (.enqueueDma (vSq 7) (.here (vRqD d)) (.dma (sCrD d)) (((Memref.isWhole_whole _).wordExact_slice rfl _ (words_q 7)).reshape _ _) (((Memref.isWhole_whole _).wordExact_slice rfl _ (k0_off6_wordsi16 d)).reshape _ _) ⟨Or.inl rfl, trivial⟩)

/-- The device's maximum to its own row. -/
def ownG (d : Dev nD) : P F PUnit :=
  Prog.lift (.enqueueDma mGs (.here (vGmD d)) (.dma (sGrD d)) (Memref.isWhole_whole _).wordExact (View.wordExact_bits rfl) ⟨Or.inl rfl, trivial⟩)
/-- The device's maximum to its `p`-th peer. -/
def sendG (d : Dev nD) (p : Fin 7) : P F PUnit :=
  Prog.lift (.enqueueDma mGs (.remote (Dev.tc (dGs d p)) (vGmD d) (.dma (sGs p))) (.dma (sGrD d)) (Memref.isWhole_whole _).wordExact (View.wordExact_bits rfl) ⟨⟨rfl, Or.inl rfl⟩, trivial⟩)

/-- The wait for incoming block `s`. -/
def waitCr (s : Fin 8) : P F PUnit :=
  Prog.lift (.waitDma2 (sCr s) (vRq s) (vRq s) (((Memref.isWhole_whole _).wordExact_slice rfl _ (words_q s)).reshape _ _) (((Memref.isWhole_whole _).wordExact_slice rfl _ (words_q s)).reshape _ _))
/-- The wait for maximum `s`. -/
def waitGr (s : Fin 8) : P F PUnit :=
  Prog.lift (.waitDma2 (sGr s) mGs (vGm s) (Memref.isWhole_whole _).wordExact (View.wordExact_bits rfl))
/-- The wait for the send of code block `t`. -/
def waitCs (t : Fin 7) : P F PUnit :=
  Prog.lift (.waitDma2 (sCs t) (vSq (up t)) (vSq (up t)) (((Memref.isWhole_whole _).wordExact_slice rfl _ (words_q (up t))).reshape _ _) (((Memref.isWhole_whole _).wordExact_slice rfl _ (words_q (up t))).reshape _ _))
/-- The wait for the maximum's `p`-th copy. -/
def waitGs (d : Dev nD) (p : Fin 7) : P F PUnit :=
  Prog.lift (.waitDma2 (sGs p) mGs (vGmD d) (Memref.isWhole_whole _).wordExact (View.wordExact_bits rfl))

/-- Output block `s`, from the maxima `g`. -/
def outB (g : Vec F S8x128 .f32) (s : Fin 8) : P F PUnit := do
  let q ← Prog.lift (.load mRq (Rect.unit (s := S8x512x1024) ![s.val, 0, 0] S1x512x1024.size (inb_q s)).toLoadRect (View.loadsAt_vmem h_S1x512x1024))
  let _ ← Prog.lift (.load mOut (Rect.unit (s := S4096x1024) ![512 * s.val, 0] S512x1024.size (inb_out s)).toLoadRect (View.loadsAt_vmem h_S512x1024))
  Prog.lift (.store mOut (Rect.unit (s := S4096x1024) ![512 * s.val, 0] S512x1024.size (inb_out s)) (k0_pay61 g q) Finset.univ (View.stores_vmem_bits_univ h_S512x1024 rfl) (.inl rfl))

/-- The body on device `d`. -/
def bodyD (d : Dev nD) : P F PUnit := do
  forL (barSig d) [0, 1, 2, 3, 4, 5, 6]
  semWaitWord sBar 7#32
  prelude
  startW d 0 0
  forL (step d) [0, 1, 2, 3, 4, 5, 6]
  lastStep d
  ownG d
  forL (sendG d) [0, 1, 2, 3, 4, 5, 6]
  forL waitCr [0, 1, 2, 3, 4, 5, 6, 7]
  forL waitGr [0, 1, 2, 3, 4, 5, 6, 7]
  forL waitCs [0, 1, 2, 3, 4, 5, 6]
  forL (waitGs d) [0, 1, 2, 3, 4, 5, 6]
  let g ← Prog.lift (.load mGm (Rect.unit (s := S8x128) ![0, 0] S8x128.size inb_S8x128_S8x128_0_0).toLoadRect (View.loadsAt_vmem h_S8x128))
  forL (outB g) [0, 1, 2, 3, 4, 5, 6, 7]
  forL (endSig d) [0, 1, 2, 3, 4, 5, 6]
  semWaitWord sEnd 7#32

/-- The body: it reads its device's number and runs. -/
def bodyS : P F PUnit := do
  let d ← Prog.lift .deviceId
  bodyD d

set_option maxRecDepth 65536 in
set_option maxHeartbeats 4000000 in
/-- The printed body is the structured one. -/
theorem body_eq : (cc0_body_skel mX (Memref.isWhole_whole _) mW (Memref.isWhole_whole _) mOut (Memref.isWhole_whole _)
    mXb (Memref.isWhole_whole _) mWb (Memref.isWhole_whole _) mSq (Memref.isWhole_whole _) mRq (Memref.isWhole_whole _)
    mGm (Memref.isWhole_whole _) mGs (Memref.isWhole_whole _) cc0_scratch6 cc0_scratch7 cc0_scratch8 cc0_scratch9 cc0_scratch10 cc0_scoped0 : P F PUnit)
    = bodyS := by
  chain_rfl

end Cert.KernelIdeal.Run

end
-- ==== Proof.Contents.lean ====
/- What the buffers hold, as functions of the launch contents, and where the views lie.

   Device `c` holds rows of `x` (`X c`) and the whole weight matrix (`Wm c`). It goes through the sixteen blocks `(t, h)`: step
   `t` takes the columns of device `c + 1 + t (mod 8)`, half `h` of them. Block `(t, h)` gives the product block `yb`, from
   which come the running maximum `gsAt` and the codes `SQ`. Device `s`'s block `t` lands on device `s + 1 + t (mod 8)` in the
   incoming slot `s`. Each content is a function on the whole buffer; a points-to on part of the buffer names it and means
   that part. -/
module

public import proofs.«01_k».proof.Proof.Prog
public import Idealize.ShloMosaic.Lib.ValueIdxCore
public import Idealize.ShloMosaic.Lib.ValueLayout

@[expose] public section

noncomputable section

namespace Cert.KernelIdeal.Run

open Cert.KernelIdeal Cert.KernelIdeal.Gen
open Idealize.ShloMosaic Idealize.ShloMosaic.TcCoe
open Idealize.ShloMosaic.ValueIdx

variable {F : FTy → Type} [FloatOps F]

/-! ## The devices around -/

set_option backward.proofsInPublic true in
/-- The device `1 + p` places after `c`. -/
def peer (p : Fin 7) (c : Dev nD) : Dev nD := ⟨(c.val + 1 + p.val) % 8, Nat.mod_lt _ (by decide)⟩
set_option backward.proofsInPublic true in
/-- The step at which device `s` computes the columns of device `c`. -/
def stepOf (s c : Dev nD) : Fin 8 := ⟨(c.val + 7 - s.val) % 8, Nat.mod_lt _ (by decide)⟩

theorem dBar_eq (d : Dev nD) (p : Fin 7) : dBar d p = peer p d := by revert d p; decide +kernel
theorem dCs_eq (d : Dev nD) (p : Fin 7) : dCs d p = peer p d := by revert d p; decide +kernel
theorem dGs_eq (d : Dev nD) (p : Fin 7) : dGs d p = peer p d := by revert d p; decide +kernel
theorem dEnd_eq (d : Dev nD) (p : Fin 7) : dEnd d p = peer p d := by revert d p; decide +kernel

theorem peer_ne (p : Fin 7) (c : Dev nD) : peer p c ≠ c := by revert p c; decide
theorem peer_inj (c : Dev nD) : Function.Injective (peer · c) := by revert c; decide
theorem stepOf_peer (p : Fin 7) (c : Dev nD) : stepOf c (peer p c) = up p := by revert p c; decide
theorem stepOf_self (c : Dev nD) : stepOf c c = 7 := by revert c; decide

theorem sCrD_eq (d : Dev nD) : sCrD d = sCr d := by revert d; decide +kernel
theorem sGrD_eq (d : Dev nD) : sGrD d = sGr d := by revert d; decide +kernel
theorem vRqD_eq (d : Dev nD) : vRqD d = vRq d := by
  unfold vRqD vRq
  exact congrArg (fun v => Memref.squeeze v S512x1024 squeezes_S1x512x1024_S512x1024) (Memref.slice_unit_congr mRq (k0_off6_eq d) _ _ _ _)
theorem vGmD_eq (d : Dev nD) : vGmD d = vGm d := by
  unfold vGmD vGm
  exact Memref.slice_unit_congr mGm (k0_off7_eq d) _ _ _ _

/-! ## Contents -/

variable (X : Dev nD → Vec F S512x4096 .f32) (Wm : Dev nD → Vec F S4096x8192 .f32)

/-- The first column of block `(t, h)` of device `c`. -/
def colOf (c : Dev nD) (t : Fin 8) (h : Fin 2) : ℕ := (c.val + 1 + t.val) % 8 * 1024 + 512 * h.val

theorem colOf_le (c : Dev nD) (t : Fin 8) (h : Fin 2) : colOf c t h + 512 ≤ 8192 := by
  unfold colOf; have := h.isLt; omega

set_option backward.proofsInPublic true in
/-- The weight columns of block `(t, h)`. -/
def wcont (c : Dev nD) (t : Fin 8) (h : Fin 2) : Vec F S1x4096x512 .f32 :=
  fun j => Wm c (ix2 (n0 := 4096) (n1 := 8192) (j 1) ⟨colOf c t h + (j 2).val, by
    have := colOf_le c t h; have h2 : (j 2).val < 512 := (j 2).isLt; omega⟩)

/-- The same as the contents of a weight slot. -/
def WB (c : Dev nD) (t : Fin 8) (h : Fin 2) : Vec F S2x4096x512 .f32 :=
  fun i => wcont Wm c t h (ix3 (n0 := 1) (n1 := 4096) (n2 := 512) 0 (i 1) (i 2))

/-- The product block `(t, h)`, negatives cut to zero. -/
def yb (c : Dev nD) (t : Fin 8) (h : Fin 2) : FVec F S512x512 .f32 := k0_pay3 (k0_pay1 (X c)) (wcont Wm c t h)

set_option backward.proofsInPublic true in
/-- The running maximum of device `c` after `n` blocks. -/
def gsAt (c : Dev nD) : ℕ → FVec F S1x128 .f32
  | 0 => k0_pay2
  | n + 1 => k0_pay4 (yb X Wm c ⟨n / 2 % 8, Nat.mod_lt _ (by decide)⟩ ⟨n % 2, Nat.mod_lt _ (by decide)⟩) (gsAt c n)

set_option backward.proofsInPublic true in
/-- The outgoing codes of device `c`. -/
def SQ (c : Dev nD) : Vec F S8x512x1024 .i16 :=
  fun i => k0_pay5 (yb X Wm c (i 0) ⟨(i 2).val / 512, by have h2 : (i 2).val < 1024 := (i 2).isLt; omega⟩)
    (ix3 (n0 := 1) (n1 := 512) (n2 := 512) 0 (i 1) ⟨(i 2).val % 512, Nat.mod_lt _ (by decide)⟩)

/-- The incoming codes of device `c`. -/
def RQ (c : Dev nD) : Vec F S8x512x1024 .i16 :=
  fun i => SQ X Wm (i 0) (ix3 (n0 := 8) (n1 := 512) (n2 := 1024) (stepOf (i 0) c) (i 1) (i 2))

/-- The eight devices' maxima. -/
def GM : Vec F S8x128 .f32 :=
  fun i => gsAt X Wm (i 0) 16 (ix2 (n0 := 1) (n1 := 128) 0 (i 1))

/-- Incoming block `s` of device `c`. -/
def rqBlk (c : Dev nD) (s : Fin 8) : Vec F S1x512x1024 .i16 :=
  fun j => RQ X Wm c (ix3 (n0 := 8) (n1 := 512) (n2 := 1024) s (j 1) (j 2))

set_option backward.proofsInPublic true in
/-- The output of device `c`. -/
def OUT (c : Dev nD) : Vec F S4096x1024 .f32 :=
  fun i => k0_pay61 (GM X Wm) (rqBlk X Wm c ⟨(i 0).val / 512, by have h0 : (i 0).val < 4096 := (i 0).isLt; omega⟩)
    (ix2 (n0 := 512) (n1 := 1024) ⟨(i 0).val % 512, Nat.mod_lt _ (by decide)⟩ (i 1))

/-! ## Where the views lie: each view's elements as a box of its buffer -/

/-- Row group `r` of weight slot `h`, as a box. -/
abbrev bW (h : Fin 2) (r : Fin 4) : Rect S2x4096x512 := Rect.unit (s := S2x4096x512) ![h.val, 1024 * r.val, 0] S1x1024x512.size (inb_wdst h r)
/-- Weight slot `h`. -/
abbrev bWs (h : Fin 2) : Rect S2x4096x512 := Rect.unit (s := S2x4096x512) ![h.val, 0, 0] S1x4096x512.size (inb_wslot h)
/-- Code block `t` of either code buffer. -/
abbrev bQ (t : Fin 8) : Rect S8x512x1024 := Rect.unit (s := S8x512x1024) ![t.val, 0, 0] S1x512x1024.size (inb_q t)
/-- Half `h` of code block `t`. -/
abbrev bQh (t : Fin 8) (h : Fin 2) : Rect S8x512x1024 := Rect.unit (s := S8x512x1024) ![t.val, 0, 512 * h.val] S1x512x512.size (inb_qhalf t h)
/-- Row `s` of the maxima. -/
abbrev bG (s : Fin 8) : Rect S8x128 := Rect.unit (s := S8x128) ![s.val, 0] S1x128.size (inb_g s)
/-- Output block `s`. -/
abbrev bO (s : Fin 8) : Rect S4096x1024 := Rect.unit (s := S4096x1024) ![512 * s.val, 0] S512x1024.size (inb_out s)

theorem vWdst_set (h : Fin 2) (r : Fin 4) : (vWdst h r).view.set = (bW h r).set :=
  (View.set_reshape (View.slice (View.whole cc0_scratch1) _) _).trans (View.set_slice_whole cc0_scratch1 _)
theorem vSq_set (t : Fin 8) : (vSq t).view.set = (bQ t).set :=
  (View.set_reshape (View.slice (View.whole cc0_scratch2) _) _).trans (View.set_slice_whole cc0_scratch2 _)
theorem vRq_set (s : Fin 8) : (vRq s).view.set = (bQ s).set :=
  (View.set_reshape (View.slice (View.whole cc0_scratch3) _) _).trans (View.set_slice_whole cc0_scratch3 _)
theorem vGm_set (s : Fin 8) : (vGm s).view.set = (bG s).set := View.set_slice_whole cc0_scratch4 _

theorem mem_unit3 {n0 n1 n2 : ℕ} {o s : Fin 3 → ℕ} {inb : ∀ a, o a + s a ≤ (⟨3, ![n0, n1, n2]⟩ : Shape).size a}
    (i : (⟨3, ![n0, n1, n2]⟩ : Shape).Idx) : i ∈ (Rect.unit o s inb).set ↔
      (o 0 ≤ (i 0).val ∧ (i 0).val < o 0 + s 0) ∧ (o 1 ≤ (i 1).val ∧ (i 1).val < o 1 + s 1) ∧ (o 2 ≤ (i 2).val ∧ (i 2).val < o 2 + s 2) :=
  Rect.mem_set_unit.trans ⟨fun H => ⟨H 0, H 1, H 2⟩, fun H => Fin.forall_fin_succ.mpr ⟨H.1, Fin.forall_fin_two.mpr H.2⟩⟩
theorem mem_unit2 {n0 n1 : ℕ} {o s : Fin 2 → ℕ} {inb : ∀ a, o a + s a ≤ (⟨2, ![n0, n1]⟩ : Shape).size a}
    (i : (⟨2, ![n0, n1]⟩ : Shape).Idx) : i ∈ (Rect.unit o s inb).set ↔
      (o 0 ≤ (i 0).val ∧ (i 0).val < o 0 + s 0) ∧ (o 1 ≤ (i 1).val ∧ (i 1).val < o 1 + s 1) :=
  Rect.mem_set_unit.trans ⟨fun H => ⟨H 0, H 1⟩, fun H => Fin.forall_fin_two.mpr H⟩

theorem mem_bW (h : Fin 2) (r : Fin 4) (i : S2x4096x512.Idx) :
    i ∈ (bW h r).set ↔ (i 0).val = h.val ∧ 1024 * r.val ≤ (i 1).val ∧ (i 1).val < 1024 * r.val + 1024 := by
  have h2 : (i 2).val < 512 := (i 2).isLt
  refine (mem_unit3 i).trans ?_
  change (h.val ≤ (i 0).val ∧ (i 0).val < h.val + 1) ∧ (1024 * r.val ≤ (i 1).val ∧ (i 1).val < 1024 * r.val + 1024) ∧ (0 ≤ (i 2).val ∧ (i 2).val < 0 + 512) ↔ _
  omega
theorem mem_bWs (h : Fin 2) (i : S2x4096x512.Idx) : i ∈ (bWs h).set ↔ (i 0).val = h.val := by
  have h1 : (i 1).val < 4096 := (i 1).isLt
  have h2 : (i 2).val < 512 := (i 2).isLt
  refine (mem_unit3 i).trans ?_
  change (h.val ≤ (i 0).val ∧ (i 0).val < h.val + 1) ∧ (0 ≤ (i 1).val ∧ (i 1).val < 0 + 4096) ∧ (0 ≤ (i 2).val ∧ (i 2).val < 0 + 512) ↔ _
  omega
theorem mem_bQ (t : Fin 8) (i : S8x512x1024.Idx) : i ∈ (bQ t).set ↔ (i 0).val = t.val := by
  have h1 : (i 1).val < 512 := (i 1).isLt
  have h2 : (i 2).val < 1024 := (i 2).isLt
  refine (mem_unit3 i).trans ?_
  change (t.val ≤ (i 0).val ∧ (i 0).val < t.val + 1) ∧ (0 ≤ (i 1).val ∧ (i 1).val < 0 + 512) ∧ (0 ≤ (i 2).val ∧ (i 2).val < 0 + 1024) ↔ _
  omega
theorem mem_bQh (t : Fin 8) (h : Fin 2) (i : S8x512x1024.Idx) :
    i ∈ (bQh t h).set ↔ (i 0).val = t.val ∧ 512 * h.val ≤ (i 2).val ∧ (i 2).val < 512 * h.val + 512 := by
  have h1 : (i 1).val < 512 := (i 1).isLt
  refine (mem_unit3 i).trans ?_
  change (t.val ≤ (i 0).val ∧ (i 0).val < t.val + 1) ∧ (0 ≤ (i 1).val ∧ (i 1).val < 0 + 512) ∧ (512 * h.val ≤ (i 2).val ∧ (i 2).val < 512 * h.val + 512) ↔ _
  omega
theorem mem_bG (s : Fin 8) (i : S8x128.Idx) : i ∈ (bG s).set ↔ (i 0).val = s.val := by
  have h1 : (i 1).val < 128 := (i 1).isLt
  refine (mem_unit2 i).trans ?_
  change (s.val ≤ (i 0).val ∧ (i 0).val < s.val + 1) ∧ (0 ≤ (i 1).val ∧ (i 1).val < 0 + 128) ↔ _
  omega
theorem mem_bO (s : Fin 8) (i : S4096x1024.Idx) : i ∈ (bO s).set ↔ 512 * s.val ≤ (i 0).val ∧ (i 0).val < 512 * s.val + 512 := by
  have h1 : (i 1).val < 1024 := (i 1).isLt
  refine (mem_unit2 i).trans ?_
  change (512 * s.val ≤ (i 0).val ∧ (i 0).val < 512 * s.val + 512) ∧ (0 ≤ (i 1).val ∧ (i 1).val < 0 + 1024) ↔ _
  omega

/-! ### The boxes tile -/

theorem bWs_eq (h : Fin 2) : (bWs h).set = (Finset.univ : Finset (Fin 4)).biUnion fun r => (bW h r).set := by
  ext i
  rw [mem_bWs, Finset.mem_biUnion]
  have h1 : (i 1).val < 4096 := (i 1).isLt
  constructor
  · intro H
    exact ⟨⟨(i 1).val / 1024, by omega⟩, Finset.mem_univ _, (mem_bW _ _ _).mpr ⟨H, by dsimp only; omega, by dsimp only; omega⟩⟩
  · rintro ⟨r, -, H⟩
    exact ((mem_bW _ _ _).mp H).1
theorem bW_disj (h : Fin 2) : ∀ r ∈ (Finset.univ : Finset (Fin 4)), ∀ r' ∈ (Finset.univ : Finset (Fin 4)), r ≠ r' → Disjoint (bW h r).set (bW h r').set := by
  intro r _ r' _ hne
  refine Finset.disjoint_left.mpr fun i hi hi' => hne (Fin.ext ?_)
  have a := (mem_bW _ _ _).mp hi; have b := (mem_bW _ _ _).mp hi'; omega
theorem univ_bWs : (Finset.univ : Finset S2x4096x512.Idx) = (Finset.univ : Finset (Fin 2)).biUnion fun h => (bWs h).set := by
  ext i
  rw [Finset.mem_biUnion]
  exact ⟨fun _ => ⟨i 0, Finset.mem_univ _, (mem_bWs _ _).mpr rfl⟩, fun _ => Finset.mem_univ _⟩
theorem bWs_disj : ∀ r ∈ (Finset.univ : Finset (Fin 2)), ∀ r' ∈ (Finset.univ : Finset (Fin 2)), r ≠ r' → Disjoint (bWs r).set (bWs r').set := by
  intro r _ r' _ hne
  refine Finset.disjoint_left.mpr fun i hi hi' => hne (Fin.ext ?_)
  have a := (mem_bWs _ _).mp hi; have b := (mem_bWs _ _).mp hi'; omega
theorem univ_bQ : (Finset.univ : Finset S8x512x1024.Idx) = (Finset.univ : Finset (Fin 8)).biUnion fun s => (bQ s).set := by
  ext i
  rw [Finset.mem_biUnion]
  exact ⟨fun _ => ⟨i 0, Finset.mem_univ _, (mem_bQ _ _).mpr rfl⟩, fun _ => Finset.mem_univ _⟩
theorem bQ_disj : ∀ r ∈ (Finset.univ : Finset (Fin 8)), ∀ r' ∈ (Finset.univ : Finset (Fin 8)), r ≠ r' → Disjoint (bQ r).set (bQ r').set := by
  intro r _ r' _ hne
  refine Finset.disjoint_left.mpr fun i hi hi' => hne (Fin.ext ?_)
  have a := (mem_bQ _ _).mp hi; have b := (mem_bQ _ _).mp hi'; omega
theorem univ_bG : (Finset.univ : Finset S8x128.Idx) = (Finset.univ : Finset (Fin 8)).biUnion fun s => (bG s).set := by
  ext i
  rw [Finset.mem_biUnion]
  exact ⟨fun _ => ⟨i 0, Finset.mem_univ _, (mem_bG _ _).mpr rfl⟩, fun _ => Finset.mem_univ _⟩
theorem bG_disj : ∀ r ∈ (Finset.univ : Finset (Fin 8)), ∀ r' ∈ (Finset.univ : Finset (Fin 8)), r ≠ r' → Disjoint (bG r).set (bG r').set := by
  intro r _ r' _ hne
  refine Finset.disjoint_left.mpr fun i hi hi' => hne (Fin.ext ?_)
  have a := (mem_bG _ _).mp hi; have b := (mem_bG _ _).mp hi'; omega

/-! ### What a transfer leaves, what a load reads -/

theorem off_src (c : Dev nD) (t : Fin 8) (h : Fin 2) :
    k0_off1 c (BitVec.ofNat 32 t.val) (BitVec.ofNat 32 (512 * h.val)) = ![0, colOf c t h]
    ∧ k0_off2 c (BitVec.ofNat 32 t.val) (BitVec.ofNat 32 (512 * h.val)) = ![1024, colOf c t h]
    ∧ k0_off3 c (BitVec.ofNat 32 t.val) (BitVec.ofNat 32 (512 * h.val)) = ![2048, colOf c t h]
    ∧ k0_off4 c (BitVec.ofNat 32 t.val) (BitVec.ofNat 32 (512 * h.val)) = ![3072, colOf c t h] := by
  revert c t h; decide +kernel

theorem inb_src (c : Dev nD) (t : Fin 8) (h : Fin 2) (r : Fin 4) :
    ∀ a, (![1024 * r.val, colOf c t h] : Fin 2 → Nat) a + S1024x512.size a ≤ S4096x8192.size a := by
  have := colOf_le c t h
  refine Fin.forall_fin_two.mpr ⟨?_, ?_⟩
  · change 1024 * r.val + 1024 ≤ 4096; have := r.isLt; omega
  · exact this

/-- The source of row group `r` of block `(t, h)` is the box at row `1024 r` and the block's first column. -/
theorem vWsrc_eq (c : Dev nD) (t : Fin 8) (h : Fin 2) (r : Fin 4) :
    vWsrc c t h r.val = mW.slice (Rect.unit (s := S4096x8192) ![1024 * r.val, colOf c t h] S1024x512.size (inb_src c t h r)) (fun _ => rfl) := by
  have H := off_src c t h
  match r with
  | 0 => exact Memref.slice_unit_congr mW H.1 _ _ (fun _ => rfl) (fun _ => rfl)
  | 1 => exact Memref.slice_unit_congr mW H.2.1 _ _ (fun _ => rfl) (fun _ => rfl)
  | 2 => exact Memref.slice_unit_congr mW H.2.2.1 _ _ (fun _ => rfl) (fun _ => rfl)
  | 3 => exact Memref.slice_unit_congr mW H.2.2.2 _ _ (fun _ => rfl) (fun _ => rfl)

/-- Row group `r` of block `(t, h)` landed in slot `h`: the slot's rows hold the block's. -/
theorem landed_w (c : Dev nD) (t : Fin 8) (h : Fin 2) (r : Fin 4) (f : Vec F S2x4096x512 .f32) (i : S2x4096x512.Idx)
    (hi : i ∈ (bW h r).set) :
    (vWdst h r).view.write (Elt F) f ((mW.slice (Rect.unit (s := S4096x8192) ![1024 * r.val, colOf c t h] S1024x512.size (inb_src c t h r)) (fun _ => rfl)).view.read (Elt F) (Wm c)) Finset.univ i
      = WB Wm c t h i := by
  rw [← vWdst_set] at hi
  obtain ⟨x, -, rfl⟩ := Finset.mem_map.mp hi
  refine (View.write_emb_of_mem _ _ (Finset.mem_univ x)).trans ?_
  have hx : ∀ j : S1x1024x512.Idx, Shape.reshapeEquiv squeezes_S1x1024x512_S1024x512.numel_eq x = j → (j 1).val = (x 0).val ∧ (j 2).val = (x 1).val := by
    rintro j rfl
    rw [show Shape.reshapeEquiv squeezes_S1x1024x512_S1024x512.numel_eq x = ix3 ⟨0, Nat.one_pos⟩ (x 0) (x 1) from by
      conv_lhs => rw [eq_ix2 x]
      exact reshapeEquiv_ix2_1ab _ _ _]
    exact ⟨rfl, rfl⟩
  obtain ⟨h1, h2⟩ := hx _ rfl
  show Wm c _ = Wm c _
  refine congrArg (Wm c) (funext fun a => Fin.ext ?_)
  match a with
  | 0 =>
    exact congrArg (fun n => 1024 * r.val + 1 * n) h1.symm
  | 1 =>
    refine (congrArg (fun n => colOf c t h + 1 * n) h2.symm).trans ?_
    exact congrArg (fun n => colOf c t h + n) (Nat.zero_add _).symm

/-- A load of slot `h` that holds block `(t, h)` reads the block. -/
theorem read_w (c : Dev nD) (t : Fin 8) (h : Fin 2) (f : Vec F S2x4096x512 .f32) (hf : ∀ i ∈ (bWs h).set, f i = WB Wm c t h i) :
    mWb.view.readAt (Elt F) (bWs h).toLoadRect f = wcont Wm c t h := by
  funext j
  show f ((bWs h).emb j) = _
  rw [hf _ (by rw [← Rect.map_emb_univ]; exact Finset.mem_map_of_mem _ (Finset.mem_univ j))]
  show Wm c _ = Wm c _
  refine congrArg (Wm c) (funext fun a => Fin.ext ?_)
  match a with
  | 0 => show 0 + 1 * (j 1).val = (j 1).val; omega
  | 1 => show colOf c t h + (0 + 1 * (j 2).val) = colOf c t h + (j 2).val; omega

/-- The codes of half `h` of block `t` stored: the half holds the codes, the rest is as before. -/
theorem stored_q (c : Dev nD) (t : Fin 8) (h : Fin 2) (f : Vec F S8x512x1024 .i16)
    (hf : ∀ i ∈ (bQ t).set, (i 2).val < 512 * h.val → f i = SQ X Wm c i) (i : S8x512x1024.Idx) (hi : i ∈ (bQ t).set)
    (hlt : (i 2).val < 512 * (h.val + 1)) :
    (mSq.access (bQh t h) : View sig .tc _ _ _).write (Elt F) f (k0_pay5 (yb X Wm c t h)) Finset.univ i = SQ X Wm c i := by
  by_cases hm : i ∈ (bQh t h).set
  · rw [← Rect.map_emb_univ] at hm
    obtain ⟨x, -, rfl⟩ := Finset.mem_map.mp hm
    refine (View.write_emb_of_mem (v := (mSq.access (bQh t h) : View sig .tc _ _ _)) _ _ (Finset.mem_univ x)).trans ?_
    have x0 : (x 0).val < 1 := (x 0).isLt
    have x2 : (x 2).val < 512 := (x 2).isLt
    have hh := h.isLt
    have e2 : ((bQh t h).emb x 2).val = 512 * h.val + 1 * (x 2).val := rfl
    show k0_pay5 _ x = k0_pay5 (yb X Wm c _ _) _
    have et : (⟨((bQh t h).emb x 0).val, ((bQh t h).emb x 0).isLt⟩ : Fin 8) = t := Fin.ext (by show t.val + 1 * (x 0).val = t.val; omega)
    have eh : ∀ p, (⟨((bQh t h).emb x 2).val / 512, p⟩ : Fin 2) = h := fun p => Fin.ext (by show ((bQh t h).emb x 2).val / 512 = h.val; omega)
    rw [eh, show (bQh t h).emb x 0 = t from et]
    refine congrArg (k0_pay5 _) (funext fun a => Fin.ext ?_)
    match a with
    | 0 => show (x 0).val = 0; omega
    | 1 => show (x 1).val = 0 + 1 * (x 1).val; omega
    | 2 => show (x 2).val = ((bQh t h).emb x 2).val % 512; rw [e2]; omega
  · refine (View.write_of_not_mem (v := (mSq.access (bQh t h) : View sig .tc _ _ _)) _ _ _ (fun h' => hm ?_)).trans (hf i hi ?_)
    · rw [← Rect.map_emb_univ]; exact h'
    · by_contra hge
      exact hm ((mem_bQh _ _ _).mpr ⟨(mem_bQ _ _).mp hi, by omega, by omega⟩)

/-- Device `s`'s block for device `c` landed in slot `s`: the slot holds `c`'s incoming codes. -/
theorem landed_q (s c : Dev nD) (f : Vec F S8x512x1024 .i16) (i : S8x512x1024.Idx) (hi : i ∈ (bQ s).set) :
    (vRq s).view.write (Elt F) f ((vSq (stepOf s c)).view.read (Elt F) (SQ X Wm s)) Finset.univ i = RQ X Wm c i := by
  rw [← vRq_set] at hi
  obtain ⟨x, -, rfl⟩ := Finset.mem_map.mp hi
  refine (View.write_emb_of_mem _ _ (Finset.mem_univ x)).trans ?_
  show SQ X Wm s _ = SQ X Wm _ _
  have key : ∀ j : S1x512x1024.Idx, SQ X Wm s ((bQ (stepOf s c)).emb j) = RQ X Wm c ((bQ s).emb j) := by
    intro j
    have j0 : (j 0).val < 1 := (j 0).isLt
    have es : (bQ s).emb j 0 = s := Fin.ext (by show s.val + 1 * (j 0).val = s.val; omega)
    show _ = SQ X Wm ((bQ s).emb j 0) _
    rw [es]
    refine congrArg (SQ X Wm s) (funext fun a => Fin.ext ?_)
    match a with
    | 0 => show (stepOf s c).val + 1 * (j 0).val = (stepOf s c).val; omega
    | 1 => rfl
    | 2 => rfl
  exact key _

/-- Device `s`'s maximum landed in row `s`. -/
theorem landed_g (s : Dev nD) (f : Vec F S8x128 .f32) (i : S8x128.Idx) (hi : i ∈ (bG s).set) :
    (vGm s).view.write (Elt F) f (mGs.view.read (Elt F) (gsAt X Wm s 16)) Finset.univ i = GM X Wm i := by
  rw [← vGm_set] at hi
  obtain ⟨x, -, rfl⟩ := Finset.mem_map.mp hi
  refine (View.write_emb_of_mem _ _ (Finset.mem_univ x)).trans ?_
  have x0 : (x 0).val < 1 := (x 0).isLt
  show gsAt X Wm s 16 x = gsAt X Wm ((bG s).emb x 0) 16 _
  have es : (bG s).emb x 0 = s := Fin.ext (by show s.val + 1 * (x 0).val = s.val; omega)
  rw [es]
  refine congrArg (gsAt X Wm s 16) (funext fun a => Fin.ext ?_)
  match a with
  | 0 => show (x 0).val = 0; omega
  | 1 => show (x 1).val = 0 + 1 * (x 1).val; omega

/-- A load of incoming block `s`. -/
theorem read_rq (c : Dev nD) (s : Fin 8) :
    mRq.view.readAt (Elt F) (bQ s).toLoadRect (RQ X Wm c) = rqBlk X Wm c s := by
  funext j
  have j0 : (j 0).val < 1 := (j 0).isLt
  show RQ X Wm c ((bQ s).emb j) = RQ X Wm c _
  refine congrArg (RQ X Wm c) (funext fun a => Fin.ext ?_)
  match a with
  | 0 => show s.val + 1 * (j 0).val = s.val; omega
  | 1 => show 0 + 1 * (j 1).val = (j 1).val; omega
  | 2 => show 0 + 1 * (j 2).val = (j 2).val; omega

/-- Output block `s` stored over an output whose blocks before it are done. -/
theorem stored_out (c : Dev nD) (s : Fin 8) (f : Vec F S4096x1024 .f32) (hf : ∀ i : S4096x1024.Idx, (i 0).val < 512 * s.val → f i = OUT X Wm c i)
    (i : S4096x1024.Idx) (hlt : (i 0).val < 512 * (s.val + 1)) :
    (mOut.access (bO s) : View sig .tc _ _ _).write (Elt F) f (k0_pay61 (GM X Wm) (rqBlk X Wm c s)) Finset.univ i = OUT X Wm c i := by
  by_cases hm : i ∈ (bO s).set
  · rw [← Rect.map_emb_univ] at hm
    obtain ⟨x, -, rfl⟩ := Finset.mem_map.mp hm
    refine (View.write_emb_of_mem (v := (mOut.access (bO s) : View sig .tc _ _ _)) _ _ (Finset.mem_univ x)).trans ?_
    have x0 : (x 0).val < 512 := (x 0).isLt
    have hs := s.isLt
    have e0 : ((bO s).emb x 0).val = 512 * s.val + 1 * (x 0).val := rfl
    show k0_pay61 _ _ x = k0_pay61 _ (rqBlk X Wm c _) _
    have es : ∀ p, (⟨((bO s).emb x 0).val / 512, p⟩ : Fin 8) = s := fun p => Fin.ext (by show ((bO s).emb x 0).val / 512 = s.val; omega)
    rw [es]
    refine congrArg (k0_pay61 _ _) (funext fun a => Fin.ext ?_)
    match a with
    | 0 => show (x 0).val = ((bO s).emb x 0).val % 512; omega
    | 1 => show (x 1).val = 0 + 1 * (x 1).val; omega
  · refine (View.write_of_not_mem (v := (mOut.access (bO s) : View sig .tc _ _ _)) _ _ _ (fun h' => hm ?_)).trans (hf i ?_)
    · rw [← Rect.map_emb_univ]; exact h'
    · by_contra hge
      exact hm ((mem_bO _ _).mpr ⟨by omega, by omega⟩)

/-! ### Loads and stores of whole buffers -/

theorem hz2 : (![0, 0] : Fin 2 → Nat) = fun _ => 0 := funext fun a => by fin_cases a <;> rfl
theorem read_x (f : Vec F S512x4096 .f32) : mX.view.readAt (Elt F) (Rect.unit (s := S512x4096) ![0, 0] S512x4096.size inb_S512x4096_S512x4096_0_0).toLoadRect f = f :=
  Memref.readAt_unit_zero (Elt F) cc0_stg0_0 hz2 _ f
theorem read_xb (f : Vec F S512x4096 .bf16) : mXb.view.readAt (Elt F) (Rect.unit (s := S512x4096) ![0, 0] S512x4096.size inb_S512x4096_S512x4096_0_0).toLoadRect f = f :=
  Memref.readAt_unit_zero (Elt F) cc0_scratch0 hz2 _ f
theorem read_gs (f : Vec F S1x128 .f32) : mGs.view.readAt (Elt F) (Rect.unit (s := S1x128) ![0, 0] S1x128.size inb_S1x128_S1x128_0_0).toLoadRect f = f :=
  Memref.readAt_unit_zero (Elt F) cc0_scratch5 hz2 _ f
theorem read_gm (f : Vec F S8x128 .f32) : mGm.view.readAt (Elt F) (Rect.unit (s := S8x128) ![0, 0] S8x128.size inb_S8x128_S8x128_0_0).toLoadRect f = f :=
  Memref.readAt_unit_zero (Elt F) cc0_scratch4 hz2 _ f
theorem write_xb (f w : Vec F S512x4096 .bf16) : (mXb.access (Rect.unit (s := S512x4096) ![0, 0] S512x4096.size inb_S512x4096_S512x4096_0_0) : View sig .tc _ _ _).write (Elt F) f w Finset.univ = w :=
  Memref.write_access_unit_zero_univ (Elt F) cc0_scratch0 hz2 _ f w
theorem write_gs (f w : Vec F S1x128 .f32) : (mGs.access (Rect.unit (s := S1x128) ![0, 0] S1x128.size inb_S1x128_S1x128_0_0) : View sig .tc _ _ _).write (Elt F) f w Finset.univ = w :=
  Memref.write_access_unit_zero_univ (Elt F) cc0_scratch5 hz2 _ f w

end Cert.KernelIdeal.Run

end
-- ==== Proof.Protocol.lean ====
/- The protocol of the exchange: its cells, what each of their duties hands over, what each device owes, and the levels.

   Every device has 32 cells, each used for one round:
   * its barrier cell: every other device pays one unit, and with it hands over ITS incoming slot and ITS row of the maxima
     that are kept for this device;
   * the exit cell: every other device pays one unit and hands over nothing;
   * a cell per outgoing code block: the device's own send pays it and gives the block back;
   * a cell per incoming code block `s`: device `s`'s transfer pays it and hands over the slot filled with the codes
     (for the device's own block the copied block comes back with it);
   * a cell per copy of the maximum, and a cell per incoming maximum, in the same way. -/
module

public import proofs.«01_k».proof.Proof.Contents
public import Idealize.ShloMosaic.Lib.Pipeline.BigSepL
public import Mathlib.Tactic.DeriveFintype

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- The protocol's rounds; a duty is named by the device that pays it. -/
abbrev UB : Type := URounds (GSem nD τ sig) (Dev nD)
/-- The pipeline's rounds, the protocol's, and the counters of the transfers a device waits for itself. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER : Emb UB 𝕄).LandsIn (upEmb : UEmb _ 𝕄) := by unfold ER; infer_instance
abbrev EC : UEmb Counters (MT nD τ sig Unit (Elt F) ℕ UU ℕ) := countersEmb

/-! ## The cells -/

/-- The kernel's own protocol semaphores. -/
inductive SK where
  | fin | cs (t : Fin 7) | cr (s : Fin 8) | gs (p : Fin 7) | gr (s : Fin 8)
deriving DecidableEq, Fintype

/-- All the protocol's semaphores: `none` is the barrier. -/
abbrev CK := Option SK

abbrev l7 : List (Fin 7) := [0, 1, 2, 3, 4, 5, 6]
abbrev l8 : List (Fin 8) := [0, 1, 2, 3, 4, 5, 6, 7]

/-- The own ones listed. -/
def allSK : List SK := [SK.fin] ++ (l7.map SK.cs ++ (l8.map SK.cr ++ (l7.map SK.gs ++ l8.map SK.gr)))
theorem univ_SK : (Finset.univ : Finset SK) = allSK.toFinset := by decide +kernel
theorem nodup_SK : allSK.Nodup := by decide +kernel

/-- A semaphore of the kernel's own. -/
def ssem : SK → SemLoc sig
  | .fin => .reg sEnd | .cs t => .dma (sCs t) | .cr s => .dma (sCr s) | .gs p => .dma (sGs p) | .gr s => .dma (sGr s)
/-- A semaphore of the protocol. -/
def csem : CK → SemLoc sig
  | none => .reg sBar
  | some k => ssem k

/-- The cell `k` of device `c`. -/
abbrev kcell (ck : Dev nD × CK) : GSem nD τ sig := ((ck.1 : Thread nD τ), csem ck.2)

/-- The name of a semaphore, if it is the protocol's. -/
def findK (sm : SemLoc sig) : Option CK := ((none : CK) :: allSK.map some).find? fun k => decide (csem k = sm)
theorem findK_csem : ∀ k : CK, findK (csem k) = some k := by decide +kernel

/-- The name of a cell, if it is the protocol's. -/
def kind (g : GSem nD τ sig) : Option CK := if g.1.2 = .tc then findK g.2 else none
theorem kind_kcell (c : Dev nD) (k : CK) : kind (kcell (c, k)) = some k := (if_pos rfl).trans (findK_csem k)

theorem csem_injective : Function.Injective csem := fun a b h => by
  have := congrArg findK h; rw [findK_csem, findK_csem] at this; exact Option.some.inj this
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## Amounts -/

/-- The credit of a code block. -/
def NC : ℕ := (vRq 0).view.dmaCredit
/-- The credit of a row of the maxima. -/
def NG : ℕ := (vGm 0).view.dmaCredit
/-- The credit of a row group of weights. -/
def NW : ℕ := (vWdst 0 0).view.dmaCredit
theorem NC_pos : 0 < NC := View.dmaCredit_pos _ (by decide)
theorem NG_pos : 0 < NG := View.dmaCredit_pos _ (by decide)
theorem NW_pos : 0 < NW := View.dmaCredit_pos _ (by decide)
theorem vRq_credit (s : Fin 8) : (vRq s).view.dmaCredit = NC := rfl
theorem vSq_credit (t : Fin 8) : (vSq t).view.dmaCredit = NC := rfl
theorem vGm_credit (s : Fin 8) : (vGm s).view.dmaCredit = NG := rfl
theorem vWdst_credit (h : Fin 2) (r : Fin 4) : (vWdst h r).view.dmaCredit = NW := rfl

/-- What one payment of cell `k` counts. -/
def amt : CK → ℕ
  | none => 1 | some .fin => 1 | some (.cs _) => NC | some (.cr _) => NC | some (.gs _) => NG | some (.gr _) => NG
theorem amt_pos (k : CK) : 0 < amt k := by
  rcases k with _ | (_ | _ | _ | _ | _)
  exacts [Nat.one_pos, Nat.one_pos, NC_pos, NC_pos, NG_pos, NG_pos]

/-! ## The pieces of the buffers -/

section Pts
variable (c : Dev nD)

/-- Outgoing block `t`. -/
def sqPts (t : Fin 8) (f : Vec F S8x512x1024 .i16) : sProp 𝕄 := ((c : Thread nD τ).loc cc0_scratch2) ↦[(bQ t).set]{fullShare} f
/-- Incoming block `s`. -/
def rqPts (s : Fin 8) (f : Vec F S8x512x1024 .i16) : sProp 𝕄 := ((c : Thread nD τ).loc cc0_scratch3) ↦[(bQ s).set]{fullShare} f
/-- Row `s` of the maxima. -/
def gmPts (s : Fin 8) (f : Vec F S8x128 .f32) : sProp 𝕄 := ((c : Thread nD τ).loc cc0_scratch4) ↦[(bG s).set]{fullShare} f
/-- The `i`-th of the eight shares of the device's maximum its copies read. -/
def gsTok (i : Fin 8) (f : Vec F S1x128 .f32) : sProp 𝕄 := ((c : Thread nD τ).loc cc0_scratch5) ↦{Transfers.shareTok fullShare 8 i} f
/-- What is left of it. -/
def gsRem (f : Vec F S1x128 .f32) : sProp 𝕄 := ((c : Thread nD τ).loc cc0_scratch5) ↦{Transfers.shareDrop fullShare 8} f

instance (t : Fin 8) (f : Vec F S8x512x1024 .i16) : BI.Storable (upEmb : UEmb _ 𝕄) (sqPts c t f) := by unfold sqPts; infer_instance
instance (t : Fin 8) (f : Vec F S8x512x1024 .i16) : BI.Storable (upEmb : UEmb _ 𝕄) (rqPts c t f) := by unfold rqPts; infer_instance
instance (t : Fin 8) (f : Vec F S8x128 .f32) : BI.Storable (upEmb : UEmb _ 𝕄) (gmPts c t f) := by unfold gmPts; infer_instance
instance (t : Fin 8) (f : Vec F S1x128 .f32) : BI.Storable (upEmb : UEmb _ 𝕄) (gsTok c t f) := by unfold gsTok; infer_instance

end Pts

/-! ## The schedule -/

variable (X : Dev nD → Vec F S512x4096 .f32) (Wm : Dev nD → Vec F S4096x8192 .f32)

/-- The devices that pay cell `k` of device `c`. -/
def dut (c : Dev nD) : CK → Finset (Dev nD)
  | none => Finset.univ.erase c | some .fin => Finset.univ.erase c
  | some (.cs _) => {c} | some (.gs _) => {c} | some (.cr s) => {s} | some (.gr s) => {s}

/-- What device `d` hands over when it pays cell `k` of device `c`. -/
def pay (c : Dev nD) (k : CK) (d : Dev nD) : sProp 𝕄 :=
  match k with
  | none => iprop((∃ f, rqPts d c f) ∗ (∃ f, gmPts d c f))
  | some .fin => iprop(emp)
  | some (.cs t) => sqPts c (up t) (SQ X Wm c)
  | some (.cr s) => iprop(rqPts c s (RQ X Wm c) ∗ (if s = c then sqPts c 7 (SQ X Wm c) else iprop(emp)))
  | some (.gs p) => gsTok c (up p) (gsAt X Wm c 16)
  | some (.gr s) => iprop(gmPts c s (GM X Wm) ∗ (if s = c then gsTok c 7 (gsAt X Wm c 16) else iprop(emp)))

instance pay_storable (c : Dev nD) (k : CK) (d : Dev nD) : BI.Storable (upEmb : UEmb _ 𝕄) (pay X Wm c k d) := by
  rcases k with _ | (_ | _ | s | _ | s) <;> dsimp only [pay] <;> (try split) <;> infer_instance

/-- The schedule: every cell has one round. -/
def Rd : Rounds.Schedule (GSem nD τ sig) (Dev nD) 𝕄 where
  duties g r := if r = 0 then (match kind g with | some k => dut g.1.1 k | none => ∅) else ∅
  unitless _ := False
  amount g _ _ := match kind g with | some k => amt k | none => 1
  payload g _ d := match kind g with | some k => pay X Wm g.1.1 k d | none => iprop(emp)
  amount_pos g _ _ _ := by
    rcases kind g with _ | k
    · exact Nat.one_pos
    · exact amt_pos k

instance Rd_storable (g : GSem nD τ sig) (r : ℕ) (d : Dev nD) : BI.Storable (upEmb : UEmb _ 𝕄) ((Rd X Wm).payload g r d) := by
  show BI.Storable upEmb (match kind g with | some k => pay X Wm g.1.1 k d | none => iprop(emp))
  rcases kind g with _ | k
  · infer_instance
  · exact pay_storable X Wm g.1.1 k d

section Sched
variable (c : Dev nD)

theorem duties_k (k : CK) : (Rd X Wm).duties (kcell (c, k)) 0 = dut c k := by
  show (match kind (kcell (c, k)) with | some k => dut c k | none => ∅) = _
  rw [kind_kcell]
theorem duties_later (g : GSem nD τ sig) : ∀ r, 1 ≤ r → (Rd X Wm).duties g r = ∅ := fun r hr => if_neg (by omega)
theorem amount_k (k : CK) (d : Dev nD) : (Rd X Wm).amount (kcell (c, k)) 0 d = amt k := by
  show (match kind (kcell (c, k)) with | some k => amt k | none => 1) = _
  rw [kind_kcell]
theorem payload_k (k : CK) (d : Dev nD) : (Rd X Wm).payload (kcell (c, k)) 0 d = pay X Wm c k d := by
  show (match kind (kcell (c, k)) with | some k => pay X Wm c k d | none => iprop(emp)) = _
  rw [kind_kcell]
theorem expect_k (k : CK) : (Rd X Wm).expect (kcell (c, k)) 0 = (dut c k).card * amt k := by
  unfold Schedule.expect Schedule.amountOf
  rw [duties_k, Finset.sum_congr rfl fun d _ => amount_k X Wm c k d, Finset.sum_const, smul_eq_mul]
theorem rest_k (k : CK) : bigSep ((Rd X Wm).duties (kcell (c, k)) 0 \ ∅) (fun d => (Rd X Wm).payload (kcell (c, k)) 0 d)
    = bigSep (dut c k) fun d => pay X Wm c k d := by
  rw [Finset.sdiff_empty, duties_k]
  exact bigSep_congr fun d _ => payload_k X Wm c k d

theorem dut_bar_card (c : Dev nD) : (dut c none).card = 7 := by revert c; decide
theorem dut_fin_card (c : Dev nD) : (dut c (some .fin)).card = 7 := by revert c; decide

/-- Over the other devices: over the seven peers. -/
theorem bigSep_others (Φ : Dev nD → sProp 𝕄) : bigSep (Finset.univ.erase c) Φ = bigSepL l7 fun p => Φ (peer p c) := by
  rw [← bigSepL_map (fun p => peer p c)]
  refine bigSep_eq_bigSepL_of_eq _ ?_ ?_ Φ
  · revert c; decide +kernel
  · revert c; decide +kernel

end Sched

/-! ## What a device owes -/

/-- A payment a device makes to a cell of another device. -/
inductive Pay where
  | bar (p : Fin 7) | cs (t : Fin 7) | gs (p : Fin 7) | fin (p : Fin 7)
deriving DecidableEq, Fintype

/-- The cell it goes to. -/
def payKey (c : Dev nD) : Pay → Dev nD × CK
  | .bar p => (peer p c, none)
  | .cs t => (peer t c, some (.cr c))
  | .gs p => (peer p c, some (.gr c))
  | .fin p => (peer p c, some .fin)

/-- What is owed, the next payment first. -/
def owe (c : Dev nD) : List Pay → CellTallies nD τ sig Unit
  | [] => 0
  | a :: l => owe c l + tallyAt (kcell (payKey c a)) () (amt (payKey c a).2)

abbrev pFin : List Pay := l7.map .fin
abbrev pGs : List Pay := l7.map .gs ++ pFin
abbrev pCs : List Pay := l7.map .cs ++ pGs
abbrev pAll : List Pay := l7.map .bar ++ pCs

/-- What device `c` owes at launch. -/
def O₀ (c : Dev nD) : CellTallies nD τ sig Unit := owe c pAll

theorem owe_apply (c : Dev nD) (l : List Pay) (ck : Dev nD × CK) :
    owe c l (kcell ck) () = (l.countP fun a => decide (payKey c a = ck)) * amt ck.2 := by
  induction l with
  | nil => show 0 = 0 * _; rw [Nat.zero_mul]
  | cons a l ih =>
    rw [owe, Pi.add_apply, Finsupp.add_apply, ih, tallyAt_apply, List.countP_cons]
    by_cases h : payKey c a = ck
    · subst h; rw [if_pos ⟨rfl, rfl⟩, if_pos (decide_eq_true rfl), Nat.add_mul, Nat.one_mul]
    · rw [if_neg (fun h' => h (kcell_injective h'.1).symm), if_neg (by simpa using h), Nat.add_zero, Nat.add_zero]

/-- What is owed anywhere is owed to a cell of the list. -/
theorem owe_pos {c : Dev nD} {l : List Pay} {g : GSem nD τ sig} {u : Unit} (h : 0 < owe c l g u) : ∃ a ∈ l, g = kcell (payKey c a) := by
  induction l with
  | nil => exact absurd h (Nat.lt_irrefl 0)
  | cons a l ih =>
    rw [owe, Pi.add_apply, Finsupp.add_apply, tallyAt_apply] at h
    by_cases hg : g = kcell (payKey c a) ∧ u = ()
    · exact ⟨a, List.mem_cons_self, hg.1⟩
    · rw [if_neg hg, Nat.add_zero] at h
      obtain ⟨b, hb, e⟩ := ih h
      exact ⟨b, List.mem_cons_of_mem _ hb, e⟩

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier cells at 1, receive cells at 2, exit cells at 3, the rest at 0. -/
def klv : CK → ℕ
  | none => 1 | some .fin => 3 | some (.cr _) => 2 | some (.gr _) => 2 | some (.cs _) => 0 | some (.gs _) => 0
def lv (g : GSem nD τ sig) (_ : Unit) : ℕ := match kind g with | some k => klv k | none => 0
theorem lv_k (c : Dev nD) (k : CK) : lv (kcell (c, k)) () = klv k := by
  show (match kind (kcell (c, k)) with | some k => klv k | none => 0) = _
  rw [kind_kcell]

def Pay.lv : Pay → ℕ | .bar _ => 1 | .cs _ => 2 | .gs _ => 2 | .fin _ => 3
theorem klv_payKey (c : Dev nD) (a : Pay) : klv (payKey c a).2 = a.lv := by cases a <;> rfl

/-- A device may wait on a cell below everything it owes. -/
theorem mayWait (c : Dev nD) (sm : SemLoc sig) (l : List Pay) (n : ℕ) (hn : lv ((c : Thread nD τ), sm) () ≤ n) (hl : ∀ a ∈ l, n < a.lv) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨a, -, rfl⟩ := owe_pos hg; exact Finset.mem_singleton_self _)
    (fun p hp => by rw [Finset.mem_singleton.mp hp]; exact hn)
    (fun g u hg => by
      obtain ⟨a, ha, rfl⟩ := owe_pos hg
      cases u
      rw [show kcell (payKey c a) = kcell ((payKey c a).1, (payKey c a).2) from rfl, lv_k, klv_payKey]
      exact hl a ha)

/-! ## Tokens, by who pays -/

/-- A payment of a device: to another's cell, or to one of its own (a send's source cell, the two local copies'). -/
inductive PK where
  | out (a : Pay) | ocs (t : Fin 7) | ogs (p : Fin 7) | ocr | ogr
deriving DecidableEq, Fintype

def tokKey (c : Dev nD) : PK → Dev nD × CK
  | .out a => payKey c a
  | .ocs t => (c, some (.cs t)) | .ogs p => (c, some (.gs p)) | .ocr => (c, some (.cr c)) | .ogr => (c, some (.gr c))

/-- The tokens listed. -/
def allPK : List PK :=
  (l7.map fun p => PK.out (.bar p)) ++ ((l7.map fun p => PK.out (.cs p)) ++ ((l7.map fun p => PK.out (.gs p)) ++ ((l7.map fun p => PK.out (.fin p))
    ++ (l7.map PK.ocs ++ (l7.map PK.ogs ++ [PK.ocr, PK.ogr])))))
theorem univ_PK : (Finset.univ : Finset PK) = allPK.toFinset := by decide +kernel
theorem nodup_PK : allPK.Nodup := by decide +kernel

theorem tokKey_nodup : ∀ c : Dev nD, (allPK.map (tokKey c)).Nodup := by decide +kernel
theorem tokKey_injective (c : Dev nD) : Function.Injective (tokKey c) := fun a b h => by
  have ha : a ∈ allPK := List.mem_toFinset.mp (univ_PK ▸ Finset.mem_univ a)
  have hb : b ∈ allPK := List.mem_toFinset.mp (univ_PK ▸ Finset.mem_univ b)
  exact List.inj_on_of_nodup_map (tokKey_nodup c) ha hb h

/-- The token device `c` pays with. -/
def tok (c : Dev nD) (a : PK) : sProp 𝕄 := dutyTok ER (kcell (tokKey c a)) 0 c

end Cert.KernelIdeal.Run

end
-- ==== Proof.Phases.lean ====
/- The phases of the kernel body, each at a symbolic device and a symbolic index: what it needs, what it leaves. -/
module

public import proofs.«01_k».proof.Proof.Protocol

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ := Variants.none

/-- Device `c` runs `p` and ends in `Q`. -/
abbrev Wp {α : Type} (c : Dev nD) (p : P F α) (Q : α → sProp 𝕄) : sProp 𝕄 :=
  wp frame (wpE (defs₀ (F := F)) 𝒱₀ (c : Thread nD τ) none) Set.univ p Q

/-- A phase at the head of a program. -/
theorem phase {c : Dev nD} {p : P F PUnit} {α : Type} {k : PUnit → P F α} {Q : α → sProp 𝕄} {A B : sProp 𝕄}
    (h : A ⊢ Wp c p (fun _ => B)) : A ⊢ iprop((B -∗ Wp c (k ⟨⟩) Q) -∗ Wp c (p >>= k) Q) := by
  iintro HA Hk
  iapply (Entails.of_eq (wp_bind (frame (sig := sig)) (wpE (defs₀ (F := F)) 𝒱₀ (c : Thread nD τ) none) Set.univ p k Q).symm)
  iapply (wp_wand (frame (sig := sig)) (wpE (defs₀ (F := F)) 𝒱₀ (c : Thread nD τ) none) Set.univ) $$ [HA]
  · iapply h; iexact HA
  · iintro %a HB
    iapply Hk; iexact HB

/-- A phase that is the rest of the program. -/
theorem phase_last {c : Dev nD} {p : P F PUnit} {Q : PUnit → sProp 𝕄} {A B : sProp 𝕄}
    (h : A ⊢ Wp c p (fun _ => B)) : A ⊢ iprop((B -∗ Q ⟨⟩) -∗ Wp c p Q) := by
  iintro HA Hk
  iapply (wp_wand (frame (sig := sig)) (wpE (defs₀ (F := F)) 𝒱₀ (c : Thread nD τ) none) Set.univ) $$ [HA]
  · iapply h; iexact HA
  · iintro %a HB
    iapply Hk; iexact HB

theorem listed_cons {I : Type} (a : I) (l : List I) (Φ : I → sProp 𝕄) : bigSepL (a :: l) Φ = iprop(Φ a ∗ bigSepL l Φ) := bigSepL_cons a l Φ

/-- A loop over a list: a state that depends on what is left of the list, and per index something consumed and something
    produced. -/
theorem loop {α : Type} {c : Dev nD} {f : α → P F PUnit} (R : List α → sProp 𝕄) (A B : α → sProp 𝕄) (l₀ : List α)
    (h : ∀ a l, (a :: l) <:+ l₀ → iprop(R (a :: l) ∗ A a) ⊢ Wp c (f a) (fun _ => iprop(R l ∗ B a))) :
    iprop(R l₀ ∗ bigSepL l₀ A) ⊢ Wp c (forL f l₀) (fun _ => iprop(R [] ∗ bigSepL l₀ B)) := by
  suffices H : ∀ l, l <:+ l₀ → iprop(R l ∗ bigSepL l A) ⊢ Wp c (forL f l) (fun _ => iprop(R [] ∗ bigSepL l B)) from H l₀ (List.suffix_refl _)
  intro l
  induction l with
  | nil =>
    intro _
    iintro ⟨HR, HA⟩
    rw [forL, Prog.pure_eq_ret, Wp, wp_ret]
    imodintro
    isplitl [HR]; · iexact HR
    iexact HA
  | cons a l ih =>
    intro hl
    have ih' := ih ((List.suffix_cons a l).trans hl)
    rw [forL, listed_cons, listed_cons]
    iintro ⟨HR, HA, Hl⟩
    iapply (phase (h a l hl)) $$ [HR HA]
    · isplitl [HR] <;> iassumption
    iintro ⟨HR, HB⟩
    iapply (phase_last ih') $$ [HR Hl]
    · isplitl [HR] <;> iassumption
    iintro ⟨HR, Hl⟩
    isplitl [HR]; · iexact HR
    isplitl [HB] <;> iassumption

variable (X : Dev nD → Vec F S512x4096 .f32) (Wm : Dev nD → Vec F S4096x8192 .f32) (K : Dev nD × CK → ℕ)

/-- Every cell's invariant, and that every cell has reached its round. -/
def records : sProp 𝕄 :=
  iprop((bigSep Finset.univ fun ck : Dev nD × CK => cellInv ER (Rd X Wm) (K ck) (kcell ck))
    ∗ bigSep Finset.univ fun ck : Dev nD × CK => reached ER (kcell ck) 0)
instance records_persistent : BI.Persistent (records X Wm K) := by unfold records; infer_instance
theorem inv_at (ck : Dev nD × CK) : records X Wm K ⊢ cellInv ER (Rd X Wm) (K ck) (kcell ck) :=
  sep_elim_left.trans (bigSep_elim (Finset.mem_univ ck))
theorem reached_at (ck : Dev nD × CK) : records X Wm K ⊢ reached ER (kcell ck) 0 :=
  sep_elim_right.trans (bigSep_elim (Finset.mem_univ ck))

/-- What a device still owes. -/
def owing (c : Dev nD) (l : List Pay) : sProp 𝕄 := iprop(∃ W, owes (c : Thread nD τ) (owe c l) W)

/-- The position of a cell at the start. -/
abbrev pos (c : Dev nD) (k : CK) : sProp 𝕄 := atPos ER (kcell (c, k)) 0 ∅ 0
/-- Credit to wait with on a cell. -/
abbrev crd (c : Dev nD) (k : CK) (n : ℕ) : sProp 𝕄 := cred (tallyAt (kcell (c, k)) () n)

section Signals
variable (c : Dev nD)

/-- A unit paid to the barrier or the exit cell of a peer. -/
theorem signal (a : Pay) (rest : List Pay) (d : Dev nD) (sem : Sem sig) (k : CK) (hk : csem k = .reg sem) (ha : payKey c a = (d, k)) (h1 : amt k = 1)
    (hd : c ∈ dut d k) :
    iprop(records X Wm K ∗ owing c (a :: rest) ∗ tok c (.out a) ∗ pay X Wm d k c)
      ⊢ Wp c (semSignalWord d sem 1#32) (fun _ => owing c rest) := by
  unfold tok
  rw [show tokKey c (.out a) = (d, k) from ha]
  have hg : ((d : Thread nD τ), SemLoc.reg sem) = kcell (d, k) := by rw [kcell, hk]
  unfold owing
  iintro ⟨#HR, ⟨%W, HO⟩, Ht, Hp⟩
  simp only [semSignalWord, Prog.lift, Prog.bind_op, Prog.bind_ret, Prog.pure_eq_ret]
  iapply (Rounds.wp_signal 𝒱₀ ER (Rd X Wm) (c : Thread nD τ) none (dst := (d : Thread nD τ)) (κ := K (d, k)) (r := 0)
      (d := c) (by rw [hg, duties_k]; exact hd) ((by rw [hg, amount_k, h1]; decide)) () (O₀ := owe c (a :: rest)) (owe c rest)
      (by rw [owe, ha, hg, h1]; rfl)) $$ [HO Ht Hp]
  · rw [hg]
    isplitr; · iapply (inv_at X Wm K (d, k)); iexact HR
    isplitl [HO]; · iexact HO
    isplitl [Ht]; · iexact Ht
    isplitl [Hp]; · rw [payload_k]; iexact Hp
    iapply (reached_at X Wm K (d, k)); iexact HR
  iintro HO
  rw [wp_ret]; imodintro
  iexists W; iexact HO

/-- The wait for a whole cell: its duties' payloads, and the cell closes. -/
theorem wait_cell {w : TpuEff nD τ sig (Elt F) Λ₀ .tc PUnit} {sm : SemLoc sig} {k' : ℕ} (k : CK) (hk : csem k = sm)
    (hw : ∀ Q : PUnit → sProp 𝕄, wpE (defs₀ (F := F)) 𝒱₀ (c : Thread nD τ) none Set.univ w Q = waitSpec (c : Thread nD τ) Set.univ sm k' Q)
    (hn : k' = (dut c k).card * amt k) (l : List Pay) (hl : ∀ a ∈ l, klv k < a.lv) :
    iprop(records X Wm K ∗ levAts L lv ∗ owing c l ∗ crd c k ((dut c k).card * amt k) ∗ pos c k)
      ⊢ Wp c (.op w .ret) (fun _ => iprop(owing c l ∗ semVal (kcell (c, k)) 0 ∗ bigSep (dut c k) fun d => pay X Wm c k d)) := by
  subst hk
  unfold owing
  iintro ⟨#HR, #Hlev, ⟨%W, HO⟩, Hc, Hat⟩
  iapply (Rounds.wp_wait_rest_token 𝒱₀ ER (Rd X Wm) (c : Thread nD τ) none (κ := K (c, k))
      hw (Set.mem_univ _) () (O := owe c l) (W := W) (R := 0) (m := 0) (T := ∅)
      (by rw [Nat.zero_add, hn]; exact (expect_k X Wm c k).symm)) $$ [Hc HO Hat]
  · isplitr; · iapply (inv_at X Wm K (c, k)); iexact HR
    isplitl [Hc]; · rw [hn]; iexact Hc
    isplitl [HO]; · iexact HO
    isplitr; · iapply (mayWait c (csem k) l (klv k) (le_of_eq (lv_k c k)) hl); iexact Hlev
    iexact Hat
  iintro ⟨HO, Hat, -, Hpay⟩
  imod (Rounds.cell_close ER (Rd X Wm) (Set.mem_univ (K (c, k))) (fun h => h) (R := 0 + 1) (duties_later X Wm (kcell (c, k)))) $$ [Hat] with Hz
  · isplitr; · iapply (inv_at X Wm K (c, k)); iexact HR
    iexact Hat
  ihave Hp := (Entails.of_eq (rest_k X Wm c k)) $$ Hpay
  rw [wp_ret]; imodintro
  isplitl [HO]; · iexists _; iexact HO
  isplitl [Hz] <;> iassumption

end Signals

end Cert.KernelIdeal.Run

end
-- ==== Proof.Steps.lean ====
/- The transfers of the weights, a block's computation, and the steps. -/
module

public import proofs.«01_k».proof.Proof.Phases

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (Wm : Dev nD → Vec F S4096x8192 .f32) (K : Dev nD × CK → ℕ) (c : Dev nD)

/-! ## The pieces a device keeps to itself -/

abbrev l4 : List (Fin 4) := [0, 1, 2, 3]

/-- The source of row group `r` of block `(t, h)`. -/
abbrev vWs (t : Fin 8) (h : Fin 2) (r : Fin 4) : Memref sig .tc .hbm S1024x512 .f32 :=
  mW.slice (Rect.unit (s := S4096x8192) ![1024 * r.val, colOf c t h] S1024x512.size (inb_src c t h r)) (fun _ => rfl)

/-- Which of the eight read shares of the weights a transfer reads with. -/
abbrev wix (h : Fin 2) (r : Fin 4) : Fin 8 := ⟨h.val * 4 + r.val, by omega⟩

/-- A read share of the weights, on a set of elements. -/
def wSh (h : Fin 2) (r : Fin 4) (S : Finset S4096x8192.Idx) : sProp 𝕄 :=
  ((c : Thread nD τ).loc main_arg1) ↦[S]{Transfers.shareTok fullShare 8 (wix h r)} Wm c
/-- Row group `r` of weight slot `h`. -/
def wbPts (h : Fin 2) (r : Fin 4) (f : Vec F S2x4096x512 .f32) : sProp 𝕄 := ((c : Thread nD τ).loc cc0_scratch1) ↦[(bW h r).set]{fullShare} f
/-- The counter of its transfers at zero. -/
def wSem (h : Fin 2) (r : Fin 4) : sProp 𝕄 := semVal ((c : Thread nD τ), SemLoc.dma (sW h r)) 0

/-- Row group `r` of slot `h` at rest. -/
def wIdle (h : Fin 2) (r : Fin 4) : sProp 𝕄 := iprop((∃ f, wbPts c h r f) ∗ wSh Wm c h r Finset.univ ∗ wSem c h r)
/-- Row group `r` of block `(t, h)` on its way. -/
def wFly (t : Fin 8) (h : Fin 2) (r : Fin 4) : sProp 𝕄 :=
  iprop(Transfers.Flight EC (c : Thread nD τ) (.dma (sW h r)) () NW iprop(wbPts c h r (WB Wm c t h) ∗ wSh Wm c h r (vWs c t h r).view.set)
    ∗ wSh Wm c h r (Finset.univ \ (vWs c t h r).view.set))
/-- Row group `r` of block `(t, h)` arrived. -/
def wGot (t : Fin 8) (h : Fin 2) (r : Fin 4) : sProp 𝕄 := iprop(wbPts c h r (WB Wm c t h) ∗ wSh Wm c h r Finset.univ ∗ wSem c h r)

theorem wSh_split (h : Fin 2) (r : Fin 4) (S : Finset S4096x8192.Idx) :
    (wSh Wm c h r Finset.univ : sProp 𝕄) ⊣⊢ iprop(wSh Wm c h r S ∗ wSh Wm c h r (Finset.univ \ S)) := by
  unfold wSh; exact pointsTo_split_subset (Finset.subset_univ S)

theorem start_rule (t : Fin 8) (h : Fin 2) (r : Fin 4) (v : Memref sig .tc .hbm S1024x512 .f32) (hv : v = vWs c t h r)
    (hsrc : v.view.WordExact) (hdst : (vWdst h r).view.WordExact)
    (hsem : DmaTarget.Typed (nD := nD) .hbm (.dma (sW h r)) (DmaTarget.here (p := (Proc.tc : Proc τ)) (vWdst h r))) :
    wIdle Wm c h r ⊢ Wp c (.op (.enqueueDma v (.here (vWdst h r)) (.dma (sW h r)) hsrc hdst hsem) .ret) (fun _ => wFly Wm c t h r) := by
  subst hv
  unfold wIdle
  iintro ⟨⟨%f, Hd⟩, Hs, Hz⟩
  ihave Hs' := (wSh_split Wm c h r (vWs c t h r).view.set).1 $$ Hs
  icases Hs' with ⟨Hs, Hs'⟩
  have rule := Transfers.wp_dmaLocal EC (defs := defs₀ (F := F)) 𝒱₀ (c : Thread nD τ) none (src := vWs c t h r) (via := ReadAs.same) (dst := vWdst h r) (sm := .dma (sW h r))
      (hsrc := hsrc) (hdst := hdst) (hsem := hsem) (k := Prog.ret) (Q := fun _ => wFly Wm c t h r)
      (q := Transfers.shareTok fullShare 8 (wix h r)) (fs := Wm c) (Sd := (bW h r).set) (fd := f) () NW (vWdst_credit h r) NW_pos (subset_of_eq (vWdst_set h r))
  iapply rule $$ [Hs Hd Hz]
  · isplitl [Hs]; · unfold wSh; iexact Hs
    isplitl [Hd]; · unfold wbPts; iexact Hd
    unfold wSem; iexact Hz
  iintro HF
  rw [wp_ret]; imodintro
  unfold wFly
  isplitl [HF]
  · iapply (Transfers.Flight_mono EC (c : Thread nD τ) (sm := .dma (sW h r)) ?_) $$ HF
    unfold wbPts wSh
    refine sep_mono_left (Entails.of_eq (pointsTo_congr fun i hi => ?_))
    exact landed_w Wm c t h r f i hi
  iexact Hs'

theorem startR_spec (t : Fin 8) (h : Fin 2) (r : Fin 4) : wIdle Wm c h r ⊢ Wp c (startR c t h r) (fun _ => wFly Wm c t h r) :=
  start_rule Wm c t h r _ (vWsrc_eq c t h r) _ _ _

theorem findK_sW : ∀ (h : Fin 2) (r : Fin 4), findK (.dma (sW h r)) = none := by decide +kernel
theorem lv_sW (h : Fin 2) (r : Fin 4) : lv ((c : Thread nD τ), .dma (sW h r)) () = 0 := by
  have : kind ((c : Thread nD τ), .dma (sW h r)) = none := (if_pos rfl).trans (findK_sW h r)
  unfold lv; rw [this]
theorem Pay.lv_pos (a : Pay) : 0 < a.lv := by cases a; exacts [Nat.one_pos, Nat.two_pos, Nat.two_pos, Nat.succ_pos 2]

theorem waitR_spec (t : Fin 8) (h : Fin 2) (r : Fin 4) (l : List Pay) :
    iprop(levAts L lv ∗ owing c l ∗ wFly Wm c t h r) ⊢ Wp c (waitR c t h r) (fun _ => iprop(owing c l ∗ wGot Wm c t h r)) := by
  unfold owing wFly waitR
  iintro ⟨#Hlev, ⟨%W, HO⟩, HF, Hs'⟩
  simp only [Prog.lift]
  iapply (Transfers.wp_waitLocalO EC (defs := defs₀ (F := F)) 𝒱₀ (c : Thread nD τ) none (srcw := vWsrc c t h r.val) (dstw := vWdst h r)
    (hsrc := View.wordExact_bits rfl) (hdst := (View.wordExact_bits rfl).reshape _ _) () (N := NW) (vWdst_credit h r)) $$ [HF HO]
  · isplitl [HF]; · iexact HF
    isplitl [HO]; · iexact HO
    iapply (mayWait c (.dma (sW h r)) l 0 (le_of_eq (lv_sW c h r)) fun a _ => a.lv_pos); iexact Hlev
  iintro ⟨⟨Hd, Hs⟩, Hz, HO⟩
  rw [wp_ret]; imodintro
  isplitl [HO]; · iexists _; iexact HO
  unfold wGot
  isplitl [Hd]; · iexact Hd
  isplitl [Hs Hs']
  · iapply (wSh_split Wm c h r (vWs c t h r).view.set).2
    isplitl [Hs] <;> iassumption
  unfold wSem; iexact Hz

/-- The four transfers of a block start. -/
theorem startW_spec (t : Fin 8) (h : Fin 2) :
    bigSepL l4 (fun r => wIdle Wm c h r) ⊢ Wp c (startW c t h) (fun _ => bigSepL l4 fun r => wFly Wm c t h r) := by
  have H := loop (c := c) (f := startR c t h) (fun _ => iprop(emp)) (fun r => wIdle Wm c h r) (fun r => wFly Wm c t h r) l4
    (fun a l _ => by
      iintro ⟨-, H⟩
      iapply (phase_last (startR_spec Wm c t h a)) $$ H
      iintro H
      isplitr; · iempintro
      iexact H)
  iintro HI
  unfold startW
  iapply (phase_last H) $$ [HI]
  · isplitr; · iempintro
    iexact HI
  iintro ⟨-, H⟩; iexact H

/-- The four waits. -/
theorem waitW_spec (t : Fin 8) (h : Fin 2) (l : List Pay) :
    iprop(levAts L lv ∗ owing c l ∗ bigSepL l4 (fun r => wFly Wm c t h r)) ⊢ Wp c (waitW c t h) (fun _ => iprop(owing c l ∗ bigSepL l4 fun r => wGot Wm c t h r)) := by
  have H := loop (c := c) (f := waitR c t h) (fun _ => iprop(levAts L lv ∗ owing c l)) (fun r => wFly Wm c t h r) (fun r => wGot Wm c t h r) l4
    (fun a l' _ => by
      iintro ⟨⟨#Hl, HO⟩, H⟩
      iapply (phase_last (waitR_spec Wm c t h a l)) $$ [HO H]
      · isplitr; · iexact Hl
        isplitl [HO] <;> iassumption
      iintro ⟨HO, H⟩
      isplitl [HO]
      · isplitr; · iexact Hl
        iexact HO
      iexact H)
  iintro ⟨#Hl, HO, HF⟩
  unfold waitW
  iapply (phase_last H) $$ [HO HF]
  · isplitl [HO]
    · isplitr; · iexact Hl
      iexact HO
    iexact HF
  iintro ⟨⟨-, HO⟩, H⟩
  isplitl [HO] <;> iassumption

/-! ## A block -/

/-- `x` in bf16. -/
def xbPts (f : Vec F S512x4096 .bf16) : sProp 𝕄 := ((c : Thread nD τ).loc cc0_scratch0) ↦{fullShare} f
/-- The maximum. -/
def gsPts (f : Vec F S1x128 .f32) : sProp 𝕄 := ((c : Thread nD τ).loc cc0_scratch5) ↦{fullShare} f
/-- Outgoing block `t`, its first `n` halves done. -/
def sqAt (t : Fin 8) (n : ℕ) : sProp 𝕄 :=
  iprop(∃ f, ⌜∀ i ∈ (bQ t).set, (i 2).val < 512 * n → f i = SQ X Wm c i⌝ ∗ sqPts c t f)

theorem sqAt_done (t : Fin 8) : sqAt X Wm c t 2 ⊢ sqPts c t (SQ X Wm c) := by
  unfold sqAt sqPts
  iintro ⟨%f, %hf, H⟩
  iapply (Entails.of_eq (pointsTo_congr fun i hi => hf i hi (by have h2 : (i 2).val < 1024 := (i 2).isLt; omega))) $$ H
theorem sqAt_start (t : Fin 8) (f : Vec F S8x512x1024 .i16) : sqPts c t f ⊢ sqAt X Wm c t 0 := by
  unfold sqAt
  iintro H; iexists f
  isplitr; · ipureintro; intro i _ h; omega
  iexact H

theorem setOn_whole_rect {κ : Kind} (b : Ref sig κ) (r : Rect b.ty.shape) : (View.whole b : View sig κ _ _ _).setOn r.toLoadRect.set = r.set :=
  (View.set_slice _ _).symm.trans (View.set_slice_whole b r)

theorem listed4 (Φ : Fin 4 → sProp 𝕄) : bigSepL l4 Φ = bigSep Finset.univ Φ := (bigSep_univ_eq_bigSepL l4 (by decide) (by decide) Φ).symm

/-- The row groups of a slot are the slot. -/
theorem slot_eq (h : Fin 2) (f : Vec F S2x4096x512 .f32) :
    bigSepL l4 (fun r => wbPts c h r f) = (((c : Thread nD τ).loc cc0_scratch1) ↦[(bWs h).set]{fullShare} f : sProp 𝕄) := by
  rw [listed4, bWs_eq]
  exact (pointsTo_biUnion _ _ (bW_disj h)).symm

/-- The number of blocks before block `(t, h)`. -/
abbrev blk (t : Fin 8) (h : Fin 2) : ℕ := 2 * t.val + h.val

theorem gsAt_succ (t : Fin 8) (h : Fin 2) : gsAt X Wm c (blk t h + 1) = k0_pay4 (yb X Wm c t h) (gsAt X Wm c (blk t h)) := by
  show k0_pay4 (yb X Wm c ⟨(2 * t.val + h.val) / 2 % 8, _⟩ ⟨(2 * t.val + h.val) % 2, _⟩) _ = _
  have ht := t.isLt
  have hh := h.isLt
  rw [show ∀ p, (⟨(2 * t.val + h.val) / 2 % 8, p⟩ : Fin 8) = t from fun p => Fin.ext (by show (2 * t.val + h.val) / 2 % 8 = t.val; omega),
    show ∀ p, (⟨(2 * t.val + h.val) % 2, p⟩ : Fin 2) = h from fun p => Fin.ext (by show (2 * t.val + h.val) % 2 = h.val; omega)]

/-- A block: from its weights in the slot, the running maximum and the outgoing block go one block on. -/
theorem compute_spec (t : Fin 8) (h : Fin 2) :
    iprop(xbPts c (k0_pay1 (X c)) ∗ bigSepL l4 (fun r => wGot Wm c t h r) ∗ gsPts c (gsAt X Wm c (blk t h)) ∗ sqAt X Wm c t h.val)
      ⊢ Wp c (compute t h) (fun _ => iprop(xbPts c (k0_pay1 (X c)) ∗ bigSepL l4 (fun r => wIdle Wm c h r)
          ∗ gsPts c (gsAt X Wm c (blk t h + 1)) ∗ sqAt X Wm c t (h.val + 1))) := by
  have split : bigSepL l4 (fun r => wGot Wm c t h r) = iprop(bigSepL l4 (fun r => wbPts c h r (WB Wm c t h)) ∗ bigSepL l4 (fun r => iprop(wSh Wm c h r Finset.univ ∗ wSem c h r))) := by
    unfold wGot; rw [listed4, listed4, listed4, bigSep_sep']
  have back : iprop(bigSepL l4 (fun r => wbPts c h r (WB Wm c t h)) ∗ bigSepL l4 (fun r => iprop(wSh Wm c h r Finset.univ ∗ wSem c h r))) ⊢ bigSepL l4 (fun r => wIdle Wm c h r) := by
    rw [← split, listed4, listed4]
    refine bigSep_mono fun r _ => show wGot Wm c t h r ⊢ wIdle Wm c h r from ?_
    unfold wGot wIdle
    iintro ⟨H, H1, H2⟩
    isplitl [H]; · iexists _; iexact H
    isplitl [H1] <;> iassumption
  rw [split, slot_eq]
  unfold xbPts gsPts sqAt sqPts
  iintro ⟨Hx, ⟨Hw, Hrest⟩, Hg, ⟨%f, %hf, Hq⟩⟩
  simp only [compute, Prog.lift, Prog.bind_op, Prog.bind_ret]
  iapply (wp_load 𝒱₀ (c : Thread nD τ) none Set.univ (m := mXb) (Finset.subset_univ _)) $$ Hx; iintro Hx
  iapply (wp_load 𝒱₀ (c : Thread nD τ) none Set.univ (m := mWb) (subset_of_eq (setOn_whole_rect cc0_scratch1 (bWs h)))) $$ Hw; iintro Hw
  iapply (wp_load 𝒱₀ (c : Thread nD τ) none Set.univ (m := mGs) (Finset.subset_univ _)) $$ Hg; iintro Hg
  iapply (wp_load 𝒱₀ (c : Thread nD τ) none Set.univ (m := mGs) (Finset.subset_univ _)) $$ Hg; iintro Hg
  rw [read_xb, read_w Wm c t h _ (fun _ _ => rfl), read_gs]
  iapply (wp_store 𝒱₀ (c : Thread nD τ) none Set.univ (m := mGs) (r := Rect.unit (s := S1x128) ![0, 0] S1x128.size inb_S1x128_S1x128_0_0) (Mk := Finset.univ) (Finset.subset_univ _)) $$ Hg; iintro Hg
  rw [write_gs]
  have hsub : (mSq.access (bQh t h) : View sig .tc _ _ _).set ⊆ (bQ t).set := by
    rw [show (mSq.access (bQh t h) : View sig .tc _ _ _).set = (bQh t h).set from View.set_slice_whole cc0_scratch2 _]
    exact fun i hi => (mem_bQ _ _).mpr ((mem_bQh _ _ _).mp hi).1
  iapply (wp_load_rect 𝒱₀ (c : Thread nD τ) none Set.univ (m := mSq) (r := bQh t h) hsub) $$ Hq; iintro Hq
  iapply (wp_store 𝒱₀ (c : Thread nD τ) none Set.univ (m := mSq) (r := bQh t h) (Mk := Finset.univ) hsub) $$ Hq; iintro Hq
  rw [wp_ret]; imodintro
  isplitl [Hx]; · iexact Hx
  isplitl [Hw Hrest]
  · iapply back
    isplitl [Hw]; · rw [slot_eq]; iexact Hw
    iexact Hrest
  isplitl [Hg]; · rw [gsAt_succ]; iexact Hg
  iexists _
  isplitr
  rotate_left
  · iexact Hq
  ipureintro
  exact fun i hi hlt => stored_q X Wm c t h f hf i hi hlt

end Cert.KernelIdeal.Run

end
-- ==== Proof.Exchange.lean ====
/- The sends, the eight steps, the copies of the maximum, the waits, and the output. -/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (Wm : Dev nD → Vec F S4096x8192 .f32) (K : Dev nD × CK → ℕ) (c : Dev nD)

/-! ## The code blocks go out -/

/-- A landed block is the block the receiving slot expects. -/
theorem landed_rq (d : Dev nD) (t : Fin 8) (ht : stepOf c d = t) (f : Vec F S8x512x1024 .i16) :
    ((((d : Dev nD) : Thread nD τ).loc cc0_scratch3) ↦[(bQ c).set]{fullShare} ((vRq c).view.write (Elt F) f ((vSq t).view.read (Elt F) (SQ X Wm c)) Finset.univ) : sProp 𝕄)
      ⊢ rqPts d c (RQ X Wm d) := by
  subst ht
  unfold rqPts
  exact Entails.of_eq (pointsTo_congr fun i hi => landed_q X Wm c d f i hi)

theorem sendC_rule (t : Fin 7) (rest : List Pay) (n : Dev nD) (hn : n = peer t c) (v : Memref sig .tc .vmem S512x1024 .i16) (hv : v = vRq c)
    (sr : DmaSem sig) (hs : sr = sCr c) (hsrc : (vSq (up t)).view.WordExact) (hdst : v.view.WordExact) (hsc : v.view.ref.isScScratch = false)
    (hsem : DmaTarget.Typed (nD := nD) .vmem (.dma sr) (DmaTarget.remote (p := (Proc.tc : Proc τ)) (Dev.tc n) v (.dma (sCs t)) hsc)) :
    iprop(records X Wm K ∗ owing c (.cs t :: rest) ∗ tok c (.out (.cs t)) ∗ tok c (.ocs t) ∗ sqPts c (up t) (SQ X Wm c) ∗ (∃ f, rqPts (peer t c) c f))
      ⊢ Wp c (.op (.enqueueDma (vSq (up t)) (DmaTarget.remote (p := (Proc.tc : Proc τ)) (Dev.tc n) v (.dma (sCs t)) hsc) (.dma sr) hsrc hdst hsem) .ret)
          (fun _ => iprop(owing c rest ∗ crd c (some (.cs t)) NC)) := by
  subst hn hv hs
  unfold owing tok
  iintro ⟨#HR, ⟨%W, HO⟩, Ht, Ht', Hs, ⟨%f, Hd⟩⟩
  have rule := Rounds.wp_send_pointsTo (defs := defs₀ (F := F)) 𝒱₀ ER (Rd X Wm) (c : Thread nD τ) none
    (c' := ((peer t c : Dev nD) : Thread nD τ)) (src := vSq (up t)) (dst := vRq c) (hsc := hsc) (sS := .dma (sCs t)) (sem := .dma (sCr c))
    (Γ := .empty) (Es := Set.univ) (hsrc := hsrc) (hdst := hdst) (hsem := hsem) (k := Prog.ret) (Q := fun _ => iprop((∃ W, owes (c : Thread nD τ) (owe c rest) W) ∗ crd c (some (.cs t)) NC))
    (q := fullShare) (fs := SQ X Wm c) (fd := f) (κ₁ := K (c, some (.cs t))) (κ₂ := K (peer t c, some (.cr c)))
    (r₁ := 0) (r₂ := 0) (d₁ := c) (d₂ := c)
    (by rw [show ((c : Thread nD τ), SemLoc.dma (sCs t)) = kcell (c, some (.cs t)) from rfl, duties_k]; exact Finset.mem_singleton_self _)
    (by rw [show (((peer t c : Dev nD) : Thread nD τ), SemLoc.dma (sCr c)) = kcell (peer t c, some (.cr c)) from rfl, duties_k]; exact Finset.mem_singleton_self _)
    () () NC (vRq_credit c) (amount_k X Wm c (some (.cs t)) c) (amount_k X Wm (peer t c) (some (.cr c)) c)
    (O₀ := owe c (.cs t :: rest)) (owe c rest) rfl (W := W)
    (by
      rw [show ((c : Thread nD τ), SemLoc.dma (sCs t)) = kcell (c, some (.cs t)) from rfl, payload_k, vSq_set]
      exact .rfl)
    (by
      rw [show (((peer t c : Dev nD) : Thread nD τ), SemLoc.dma (sCr c)) = kcell (peer t c, some (.cr c)) from rfl, payload_k, vRq_set]
      dsimp only [pay]
      rw [if_neg (peer_ne t c).symm]
      iintro H
      isplitl [H]; · iapply (landed_rq X Wm c (peer t c) (up t) (stepOf_peer t c) f); iexact H
      iempintro)
  rw [vSq_set, vRq_set] at rule
  iapply rule $$ [HO Ht Ht' Hs Hd]
  · isplitr; · iapply (inv_at X Wm K (c, some (.cs t))); iexact HR
    isplitr; · iapply (inv_at X Wm K (peer t c, some (.cr c))); iexact HR
    isplitl [Hs]; · unfold sqPts; iexact Hs
    isplitl [Hd]; · unfold rqPts; iexact Hd
    isplitl [HO]; · iexact HO
    isplitl [Ht']; · iexact Ht'
    isplitr; · iapply (reached_at X Wm K (c, some (.cs t))); iexact HR
    isplitl [Ht]; · iexact Ht
    iapply (reached_at X Wm K (peer t c, some (.cr c))); iexact HR
  iintro ⟨Hc, HO⟩
  rw [wp_ret]; imodintro
  isplitl [HO]; · iexists W; iexact HO
  iexact Hc

theorem sendC_spec (t : Fin 7) (rest : List Pay) :
    iprop(records X Wm K ∗ owing c (.cs t :: rest) ∗ tok c (.out (.cs t)) ∗ tok c (.ocs t) ∗ sqPts c (up t) (SQ X Wm c) ∗ (∃ f, rqPts (peer t c) c f))
      ⊢ Wp c (sendC c t) (fun _ => iprop(owing c rest ∗ crd c (some (.cs t)) NC)) :=
  sendC_rule X Wm K c t rest _ (dCs_eq c t) _ (vRqD_eq c) _ (sCrD_eq c) _ _ _ _

/-! ## The copies of the maximum -/

theorem landed_gm (d : Dev nD) (f : Vec F S8x128 .f32) :
    ((((d : Dev nD) : Thread nD τ).loc cc0_scratch4) ↦[(bG c).set]{fullShare} ((vGm c).view.write (Elt F) f (mGs.view.read (Elt F) (gsAt X Wm c 16)) Finset.univ) : sProp 𝕄)
      ⊢ gmPts d c (GM X Wm) := by
  unfold gmPts
  exact Entails.of_eq (pointsTo_congr fun i hi => landed_g X Wm c f i hi)

theorem sendG_rule (p : Fin 7) (rest : List Pay) (n : Dev nD) (hn : n = peer p c) (v : Memref sig .tc .vmem S1x128 .f32) (hv : v = vGm c)
    (sr : DmaSem sig) (hs : sr = sGr c) (hsrc : mGs.view.WordExact) (hdst : v.view.WordExact) (hsc : v.view.ref.isScScratch = false)
    (hsem : DmaTarget.Typed (nD := nD) .vmem (.dma sr) (DmaTarget.remote (p := (Proc.tc : Proc τ)) (Dev.tc n) v (.dma (sGs p)) hsc)) :
    iprop(records X Wm K ∗ owing c (.gs p :: rest) ∗ tok c (.out (.gs p)) ∗ tok c (.ogs p) ∗ gsTok c (up p) (gsAt X Wm c 16) ∗ (∃ f, gmPts (peer p c) c f))
      ⊢ Wp c (.op (.enqueueDma mGs (DmaTarget.remote (p := (Proc.tc : Proc τ)) (Dev.tc n) v (.dma (sGs p)) hsc) (.dma sr) hsrc hdst hsem) .ret)
          (fun _ => iprop(owing c rest ∗ crd c (some (.gs p)) NG)) := by
  subst hn hv hs
  unfold owing tok
  iintro ⟨#HR, ⟨%W, HO⟩, Ht, Ht', Hs, ⟨%f, Hd⟩⟩
  have rule := Rounds.wp_send_pointsTo (defs := defs₀ (F := F)) 𝒱₀ ER (Rd X Wm) (c : Thread nD τ) none
    (c' := ((peer p c : Dev nD) : Thread nD τ)) (src := mGs) (dst := vGm c) (hsc := hsc) (sS := .dma (sGs p)) (sem := .dma (sGr c))
    (Γ := .empty) (Es := Set.univ) (hsrc := hsrc) (hdst := hdst) (hsem := hsem) (k := Prog.ret) (Q := fun _ => iprop((∃ W, owes (c : Thread nD τ) (owe c rest) W) ∗ crd c (some (.gs p)) NG))
    (q := Transfers.shareTok fullShare 8 (up p)) (fs := gsAt X Wm c 16) (fd := f) (κ₁ := K (c, some (.gs p))) (κ₂ := K (peer p c, some (.gr c)))
    (r₁ := 0) (r₂ := 0) (d₁ := c) (d₂ := c)
    (by rw [show ((c : Thread nD τ), SemLoc.dma (sGs p)) = kcell (c, some (.gs p)) from rfl, duties_k]; exact Finset.mem_singleton_self _)
    (by rw [show (((peer p c : Dev nD) : Thread nD τ), SemLoc.dma (sGr c)) = kcell (peer p c, some (.gr c)) from rfl, duties_k]; exact Finset.mem_singleton_self _)
    () () NG (vGm_credit c) (amount_k X Wm c (some (.gs p)) c) (amount_k X Wm (peer p c) (some (.gr c)) c)
    (O₀ := owe c (.gs p :: rest)) (owe c rest) rfl (W := W)
    (by
      rw [show ((c : Thread nD τ), SemLoc.dma (sGs p)) = kcell (c, some (.gs p)) from rfl, payload_k, View.set_whole]
      exact .rfl)
    (by
      rw [show (((peer p c : Dev nD) : Thread nD τ), SemLoc.dma (sGr c)) = kcell (peer p c, some (.gr c)) from rfl, payload_k, vGm_set]
      dsimp only [pay]
      rw [if_neg (peer_ne p c).symm]
      iintro H
      isplitl [H]; · iapply (landed_gm X Wm c (peer p c) f); iexact H
      iempintro)
  rw [View.set_whole, vGm_set] at rule
  iapply rule $$ [HO Ht Ht' Hs Hd]
  · isplitr; · iapply (inv_at X Wm K (c, some (.gs p))); iexact HR
    isplitr; · iapply (inv_at X Wm K (peer p c, some (.gr c))); iexact HR
    isplitl [Hs]; · unfold gsTok; iexact Hs
    isplitl [Hd]; · unfold gmPts; iexact Hd
    isplitl [HO]; · iexact HO
    isplitl [Ht']; · iexact Ht'
    isplitr; · iapply (reached_at X Wm K (c, some (.gs p))); iexact HR
    isplitl [Ht]; · iexact Ht
    iapply (reached_at X Wm K (peer p c, some (.gr c))); iexact HR
  iintro ⟨Hc, HO⟩
  rw [wp_ret]; imodintro
  isplitl [HO]; · iexists W; iexact HO
  iexact Hc

theorem sendG_spec (p : Fin 7) (rest : List Pay) :
    iprop(records X Wm K ∗ owing c (.gs p :: rest) ∗ tok c (.out (.gs p)) ∗ tok c (.ogs p) ∗ gsTok c (up p) (gsAt X Wm c 16) ∗ (∃ f, gmPts (peer p c) c f))
      ⊢ Wp c (sendG c p) (fun _ => iprop(owing c rest ∗ crd c (some (.gs p)) NG)) :=
  sendG_rule X Wm K c p rest _ (dGs_eq c p) _ (vGmD_eq c) _ (sGrD_eq c) _ _ _ _

/-! ## The two local copies -/

theorem copyC_rule (v : Memref sig .tc .vmem S512x1024 .i16) (hv : v = vRq c)
    (sr : DmaSem sig) (hs : sr = sCr c) (hsrc : (vSq 7).view.WordExact) (hdst : v.view.WordExact)
    (hsem : DmaTarget.Typed (nD := nD) .vmem (.dma sr) (DmaTarget.here (p := (Proc.tc : Proc τ)) v)) :
    iprop(records X Wm K ∗ tok c .ocr ∗ sqPts c 7 (SQ X Wm c) ∗ (∃ f, rqPts c c f))
      ⊢ Wp c (.op (.enqueueDma (vSq 7) (DmaTarget.here (p := (Proc.tc : Proc τ)) v) (.dma sr) hsrc hdst hsem) .ret)
          (fun _ => crd c (some (.cr c)) NC) := by
  subst hv hs
  unfold tok
  iintro ⟨#HR, Ht, Hs, ⟨%f, Hd⟩⟩
  have rule := Rounds.wp_copy_pointsTo (defs := defs₀ (F := F)) 𝒱₀ ER (Rd X Wm) (c : Thread nD τ) none
    (src := vSq 7) (dst := vRq c) (sem := .dma (sCr c))
    (hsrc := hsrc) (hdst := hdst) (hsem := hsem) (k := Prog.ret) (Q := fun _ => crd c (some (.cr c)) NC)
    (q := fullShare) (fs := SQ X Wm c) (fd := f) (κ := K (c, some (.cr c))) (r := 0) (d := c)
    (by rw [show ((c : Thread nD τ), SemLoc.dma (sCr c)) = kcell (c, some (.cr c)) from rfl, duties_k]; exact Finset.mem_singleton_self _)
    () NC (vRq_credit c) (amount_k X Wm c (some (.cr c)) c)
    (by
      rw [show ((c : Thread nD τ), SemLoc.dma (sCr c)) = kcell (c, some (.cr c)) from rfl, payload_k, vSq_set, vRq_set]
      dsimp only [pay]
      rw [if_pos rfl]
      iintro ⟨H, Hs⟩
      isplitl [H]; · iapply (landed_rq X Wm c c 7 (stepOf_self c) f); iexact H
      · unfold sqPts; iexact Hs)
    (Γ := .empty) (Es := Set.univ)
  rw [vSq_set, vRq_set] at rule
  iapply rule $$ [Ht Hs Hd]
  · isplitr; · iapply (inv_at X Wm K (c, some (.cr c))); iexact HR
    isplitl [Hs]; · unfold sqPts; iexact Hs
    isplitl [Hd]; · unfold rqPts; iexact Hd
    isplitl [Ht]; · iexact Ht
    iapply (reached_at X Wm K (c, some (.cr c))); iexact HR
  iintro Hc
  rw [wp_ret]; imodintro
  iexact Hc

theorem copyG_rule (v : Memref sig .tc .vmem S1x128 .f32) (hv : v = vGm c)
    (sr : DmaSem sig) (hs : sr = sGr c) (hsrc : mGs.view.WordExact) (hdst : v.view.WordExact)
    (hsem : DmaTarget.Typed (nD := nD) .vmem (.dma sr) (DmaTarget.here (p := (Proc.tc : Proc τ)) v)) :
    iprop(records X Wm K ∗ tok c .ogr ∗ gsTok c 7 (gsAt X Wm c 16) ∗ (∃ f, gmPts c c f))
      ⊢ Wp c (.op (.enqueueDma mGs (DmaTarget.here (p := (Proc.tc : Proc τ)) v) (.dma sr) hsrc hdst hsem) .ret)
          (fun _ => crd c (some (.gr c)) NG) := by
  subst hv hs
  unfold tok
  iintro ⟨#HR, Ht, Hs, ⟨%f, Hd⟩⟩
  have rule := Rounds.wp_copy_pointsTo (defs := defs₀ (F := F)) 𝒱₀ ER (Rd X Wm) (c : Thread nD τ) none
    (src := mGs) (dst := vGm c) (sem := .dma (sGr c))
    (hsrc := hsrc) (hdst := hdst) (hsem := hsem) (k := Prog.ret) (Q := fun _ => crd c (some (.gr c)) NG)
    (q := Transfers.shareTok fullShare 8 7) (fs := gsAt X Wm c 16) (fd := f) (κ := K (c, some (.gr c))) (r := 0) (d := c)
    (by rw [show ((c : Thread nD τ), SemLoc.dma (sGr c)) = kcell (c, some (.gr c)) from rfl, duties_k]; exact Finset.mem_singleton_self _)
    () NG (vGm_credit c) (amount_k X Wm c (some (.gr c)) c)
    (by
      rw [show ((c : Thread nD τ), SemLoc.dma (sGr c)) = kcell (c, some (.gr c)) from rfl, payload_k, View.set_whole, vGm_set]
      dsimp only [pay]
      rw [if_pos rfl]
      iintro ⟨H, Hs⟩
      isplitl [H]; · iapply (landed_gm X Wm c c f); iexact H
      unfold gsTok; iexact Hs)
    (Γ := .empty) (Es := Set.univ)
  rw [View.set_whole, vGm_set] at rule
  iapply rule $$ [Ht Hs Hd]
  · isplitr; · iapply (inv_at X Wm K (c, some (.gr c))); iexact HR
    isplitl [Hs]; · unfold gsTok; iexact Hs
    isplitl [Hd]; · unfold gmPts; iexact Hd
    isplitl [Ht]; · iexact Ht
    iapply (reached_at X Wm K (c, some (.gr c))); iexact HR
  iintro Hc
  rw [wp_ret]; imodintro
  iexact Hc

theorem ownG_spec : iprop(records X Wm K ∗ tok c .ogr ∗ gsTok c 7 (gsAt X Wm c 16) ∗ (∃ f, gmPts c c f)) ⊢ Wp c (ownG c) (fun _ => crd c (some (.gr c)) NG) :=
  copyG_rule X Wm K c _ (vGmD_eq c) _ (sGrD_eq c) _ _ _

/-! ## The steps -/

/-- The step a rest of the steps begins with. -/
def nxt7 : List (Fin 7) → Fin 8
  | [] => 7
  | a :: _ => up a
theorem nxt7_suffix {a : Fin 7} {l : List (Fin 7)} (h : (a :: l) <:+ l7) : nxt7 l = a.succ := by
  have H : ∀ s ∈ l7.tails, (match s with | [] => true | a :: l => decide (nxt7 l = a.succ)) = true := by decide
  exact of_decide_eq_true (H _ ((List.mem_tails _ _).mpr h))

/-- Between two steps: half 0 of the next step's weights on their way, the other slot at rest, the maximum so far. -/
def stepR (l : List (Fin 7)) : sProp 𝕄 :=
  iprop(records X Wm K ∗ levAts L lv ∗ owing c (l.map .cs ++ pGs) ∗ bigSepL l4 (fun r => wFly Wm c (nxt7 l) 0 r) ∗ bigSepL l4 (fun r => wIdle Wm c 1 r)
    ∗ xbPts c (k0_pay1 (X c)) ∗ gsPts c (gsAt X Wm c (blk (nxt7 l) 0)))

theorem step_spec (t : Fin 7) (l : List (Fin 7)) (hl : (t :: l) <:+ l7) :
    iprop(stepR X Wm K c (t :: l) ∗ ((∃ f, sqPts c (up t) f) ∗ tok c (.out (.cs t)) ∗ tok c (.ocs t) ∗ (∃ f, rqPts (peer t c) c f)))
      ⊢ Wp c (step c t) (fun _ => iprop(stepR X Wm K c l ∗ crd c (some (.cs t)) NC)) := by
  unfold stepR step
  rw [nxt7_suffix hl]
  iintro ⟨⟨#HR, #Hlev, HO, HF, HI, Hx, Hg⟩, ⟨%f, Hq⟩, Ht, Ht', Hd⟩
  iapply (phase (startW_spec Wm c (up t) 1)) $$ HI; iintro HF1
  iapply (phase (waitW_spec Wm c (up t) 0 ((t :: l).map .cs ++ pGs))) $$ [HO HF]
  · isplitr; · iexact Hlev
    isplitl [HO]; · iexact HO
    iexact HF
  iintro ⟨HO, HG⟩
  ihave Hq := (sqAt_start X Wm c (up t) f) $$ Hq
  iapply (phase (compute_spec X Wm c (up t) 0)) $$ [Hx HG Hg Hq]
  · isplitl [Hx]; · iexact Hx
    isplitl [HG]; · iexact HG
    isplitl [Hg]; · iexact Hg
    iexact Hq
  iintro ⟨Hx, HI, Hg, Hq⟩
  iapply (phase (startW_spec Wm c t.succ 0)) $$ HI; iintro HF
  iapply (phase (waitW_spec Wm c (up t) 1 ((t :: l).map .cs ++ pGs))) $$ [HO HF1]
  · isplitr; · iexact Hlev
    isplitl [HO]; · iexact HO
    iexact HF1
  iintro ⟨HO, HG⟩
  iapply (phase (compute_spec X Wm c (up t) 1)) $$ [Hx HG Hg Hq]
  · isplitl [Hx]; · iexact Hx
    isplitl [HG]; · iexact HG
    isplitl [Hg]; · iexact Hg
    iexact Hq
  iintro ⟨Hx, HI, Hg, Hq⟩
  ihave Hq := (show sqAt X Wm c (up t) ((1 : Fin 2).val + 1) ⊢ sqPts c (up t) (SQ X Wm c) from sqAt_done X Wm c (up t)) $$ Hq
  iapply (phase_last (sendC_spec X Wm K c t (l.map .cs ++ pGs))) $$ [HO Ht Ht' Hq Hd]
  · isplitr; · iexact HR
    isplitl [HO]; · iexact HO
    isplitl [Ht]; · iexact Ht
    isplitl [Ht']; · iexact Ht'
    isplitl [Hq] <;> iassumption
  iintro ⟨HO, Hc⟩
  isplitr [Hc]
  · isplitr; · iexact HR
    isplitr; · iexact Hlev
    isplitl [HO]; · iexact HO
    isplitl [HF]; · iexact HF
    isplitl [HI]; · iexact HI
    isplitl [Hx]; · iexact Hx
    iexact Hg
  iexact Hc

theorem lastStep_spec :
    iprop(stepR X Wm K c [] ∗ (∃ f, sqPts c 7 f) ∗ tok c .ocr ∗ (∃ f, rqPts c c f))
      ⊢ Wp c (lastStep c) (fun _ => iprop(owing c pGs ∗ bigSepL l4 (fun r => wIdle Wm c 0 r) ∗ bigSepL l4 (fun r => wIdle Wm c 1 r)
          ∗ xbPts c (k0_pay1 (X c)) ∗ gsPts c (gsAt X Wm c 16) ∗ crd c (some (.cr c)) NC)) := by
  unfold stepR lastStep
  iintro ⟨⟨#HR, #Hlev, HO, HF, HI, Hx, Hg⟩, ⟨%f, Hq⟩, Ht, Hd⟩
  iapply (phase (startW_spec Wm c 7 1)) $$ HI; iintro HF1
  iapply (phase (waitW_spec Wm c 7 0 pGs)) $$ [HO HF]
  · isplitr; · iexact Hlev
    isplitl [HO]; · iexact HO
    iexact HF
  iintro ⟨HO, HG⟩
  ihave Hq := (sqAt_start X Wm c 7 f) $$ Hq
  iapply (phase (compute_spec X Wm c 7 0)) $$ [Hx HG Hg Hq]
  · isplitl [Hx]; · iexact Hx
    isplitl [HG]; · iexact HG
    isplitl [Hg]; · iexact Hg
    iexact Hq
  iintro ⟨Hx, HI, Hg, Hq⟩
  iapply (phase (waitW_spec Wm c 7 1 pGs)) $$ [HO HF1]
  · isplitr; · iexact Hlev
    isplitl [HO]; · iexact HO
    iexact HF1
  iintro ⟨HO, HG⟩
  iapply (phase (compute_spec X Wm c 7 1)) $$ [Hx HG Hg Hq]
  · isplitl [Hx]; · iexact Hx
    isplitl [HG]; · iexact HG
    isplitl [Hg]; · iexact Hg
    iexact Hq
  iintro ⟨Hx, HI1, Hg, Hq⟩
  ihave Hq := (show sqAt X Wm c 7 ((1 : Fin 2).val + 1) ⊢ sqPts c 7 (SQ X Wm c) from sqAt_done X Wm c 7) $$ Hq
  iapply (phase_last (copyC_rule X Wm K c _ (vRqD_eq c) _ (sCrD_eq c) _ _ _)) $$ [Ht Hq Hd]
  · isplitr; · iexact HR
    isplitl [Ht]; · iexact Ht
    isplitl [Hq] <;> iassumption
  iintro Hc
  isplitl [HO]; · iexact HO
  isplitl [HI]; · iexact HI
  isplitl [HI1]; · iexact HI1
  isplitl [Hx]; · iexact Hx
  isplitl [Hg]; · iexact Hg
  iexact Hc

/-! ## The waits -/

/-- A wait for a cell with one duty. -/
theorem wait_one {w : TpuEff nD τ sig (Elt F) Λ₀ .tc PUnit} {sm : SemLoc sig} {k' : ℕ} (k : SK) (d : Dev nD) (hd : dut c (some k) = {d}) (hk : ssem k = sm)
    (hw : ∀ Q : PUnit → sProp 𝕄, wpE (defs₀ (F := F)) 𝒱₀ (c : Thread nD τ) none Set.univ w Q = waitSpec (c : Thread nD τ) Set.univ sm k' Q)
    (hn : k' = amt (some k)) (l : List Pay) (hl : ∀ a ∈ l, klv (some k) < a.lv) :
    iprop((records X Wm K ∗ levAts L lv ∗ owing c l) ∗ (crd c (some k) (amt (some k)) ∗ pos c (some k)))
      ⊢ Wp c (.op w .ret) (fun _ => iprop((records X Wm K ∗ levAts L lv ∗ owing c l) ∗ (semVal (kcell (c, some k)) 0 ∗ pay X Wm c (some k) d))) := by
  have h1 : (dut c (some k)).card = 1 := by rw [hd]; exact Finset.card_singleton d
  have H := wait_cell X Wm K c (some k) hk hw (by rw [h1, Nat.one_mul]; exact hn) l hl
  rw [h1, Nat.one_mul, hd, bigSep_singleton] at H
  iintro ⟨⟨#HR, #Hlev, HO⟩, Hc, Hp⟩
  iapply (phase_last H) $$ [HO Hc Hp]
  · isplitr; · iexact HR
    isplitr; · iexact Hlev
    isplitl [HO]; · iexact HO
    isplitl [Hc] <;> iassumption
  iintro ⟨HO, Hz, Hp⟩
  isplitl [HO]
  · isplitr; · iexact HR
    isplitr; · iexact Hlev
    iexact HO
  isplitl [Hz] <;> iassumption

theorem above_fin (n : ℕ) (hn : n < 3) : ∀ a ∈ pFin, n < a.lv := fun a ha => by
  obtain ⟨p, -, rfl⟩ := List.mem_map.mp ha; exact hn

theorem waitCr_spec (s : Fin 8) :
    iprop((records X Wm K ∗ levAts L lv ∗ owing c pFin) ∗ (crd c (some (.cr s)) NC ∗ pos c (some (.cr s))))
      ⊢ Wp c (waitCr s) (fun _ => iprop((records X Wm K ∗ levAts L lv ∗ owing c pFin) ∗ (semVal (kcell (c, some (.cr s))) 0 ∗ pay X Wm c (some (.cr s)) s))) :=
  wait_one X Wm K c (.cr s) s rfl rfl (wpE_waitDma2_eq 𝒱₀ (c : Thread nD τ) none Set.univ) (vRq_credit s) pFin (above_fin 2 (by decide))
theorem waitGr_spec (s : Fin 8) :
    iprop((records X Wm K ∗ levAts L lv ∗ owing c pFin) ∗ (crd c (some (.gr s)) NG ∗ pos c (some (.gr s))))
      ⊢ Wp c (waitGr s) (fun _ => iprop((records X Wm K ∗ levAts L lv ∗ owing c pFin) ∗ (semVal (kcell (c, some (.gr s))) 0 ∗ pay X Wm c (some (.gr s)) s))) :=
  wait_one X Wm K c (.gr s) s rfl rfl (wpE_waitDma2_eq 𝒱₀ (c : Thread nD τ) none Set.univ) (vGm_credit s) pFin (above_fin 2 (by decide))
theorem waitCs_spec (t : Fin 7) :
    iprop((records X Wm K ∗ levAts L lv ∗ owing c pFin) ∗ (crd c (some (.cs t)) NC ∗ pos c (some (.cs t))))
      ⊢ Wp c (waitCs t) (fun _ => iprop((records X Wm K ∗ levAts L lv ∗ owing c pFin) ∗ (semVal (kcell (c, some (.cs t))) 0 ∗ pay X Wm c (some (.cs t)) c))) :=
  wait_one X Wm K c (.cs t) c rfl rfl (wpE_waitDma2_eq 𝒱₀ (c : Thread nD τ) none Set.univ) (vSq_credit (up t)) pFin (above_fin 0 (by decide))
theorem waitGs_spec (p : Fin 7) :
    iprop((records X Wm K ∗ levAts L lv ∗ owing c pFin) ∗ (crd c (some (.gs p)) NG ∗ pos c (some (.gs p))))
      ⊢ Wp c (waitGs c p) (fun _ => iprop((records X Wm K ∗ levAts L lv ∗ owing c pFin) ∗ (semVal (kcell (c, some (.gs p))) 0 ∗ pay X Wm c (some (.gs p)) c))) :=
  wait_one X Wm K c (.gs p) c rfl rfl (wpE_waitDma2_eq 𝒱₀ (c : Thread nD τ) none Set.univ) ((congrArg (fun v : Memref sig .tc .vmem S1x128 .f32 => v.view.dmaCredit) (vGmD_eq c)).trans (vGm_credit c)) pFin (above_fin 0 (by decide))

/-! ## The output -/

/-- The row block an unfinished output goes on with. -/
def nxt8 : List (Fin 8) → ℕ
  | [] => 8
  | a :: _ => a.val
theorem nxt8_suffix {a : Fin 8} {l : List (Fin 8)} (h : (a :: l) <:+ l8) : nxt8 l = a.val + 1 := by
  have H : ∀ s ∈ l8.tails, (match s with | [] => true | a :: l => decide (nxt8 l = a.val + 1)) = true := by decide
  exact of_decide_eq_true (H _ ((List.mem_tails _ _).mpr h))

/-- The output, its first `n` row blocks done. -/
def outAt (n : ℕ) : sProp 𝕄 :=
  iprop(∃ f : Vec F S4096x1024 .f32, ⌜∀ i : S4096x1024.Idx, (i 0).val < 512 * n → f i = OUT X Wm c i⌝ ∗ (((c : Thread nD τ).loc cc0_stg1_0) ↦{fullShare} f))

theorem outB_spec (s : Fin 8) (l : List (Fin 8)) (hl : (s :: l) <:+ l8) :
    iprop(outAt X Wm c (nxt8 (s :: l)) ∗ rqPts c s (RQ X Wm c)) ⊢ Wp c (outB (GM X Wm) s) (fun _ => iprop(outAt X Wm c (nxt8 l) ∗ rqPts c s (RQ X Wm c))) := by
  rw [nxt8_suffix hl]
  unfold outAt rqPts
  iintro ⟨⟨%f, %hf, Ho⟩, Hq⟩
  simp only [outB, Prog.lift, Prog.bind_op, Prog.bind_ret]
  iapply (wp_load 𝒱₀ (c : Thread nD τ) none Set.univ (m := mRq) (subset_of_eq (setOn_whole_rect cc0_scratch3 (bQ s)))) $$ Hq; iintro Hq
  rw [read_rq]
  iapply (wp_load 𝒱₀ (c : Thread nD τ) none Set.univ (m := mOut) (Finset.subset_univ _)) $$ Ho; iintro Ho
  iapply (wp_store 𝒱₀ (c : Thread nD τ) none Set.univ (m := mOut) (r := bO s) (Mk := Finset.univ) (Finset.subset_univ _)) $$ Ho; iintro Ho
  rw [wp_ret]; imodintro
  isplitl [Ho]
  · iexists _
    isplitr
    rotate_left
    · iexact Ho
    ipureintro
    exact fun i hlt => stored_out X Wm c s f hf i hlt
  iexact Hq

end Cert.KernelIdeal.Run

end
-- ==== Proof.Body.lean ====
/- The run of the whole body on one device: from what the device is given at the start to its finished output. -/
module

public import proofs.«01_k».proof.Proof.Exchange

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chains -/

/-- A chain of pairs is a pair of chains. -/
theorem listed_sep {I : Type} (l : List I) (Φ Ψ : I → sProp 𝕄) : bigSepL l (fun i => iprop(Φ i ∗ Ψ i)) = iprop(bigSepL l Φ ∗ bigSepL l Ψ) := by
  induction l with
  | nil => exact (equiv_iff.mp emp_sep).symm
  | cons i l ih =>
    rw [listed_cons, listed_cons, listed_cons, ih]
    refine Entails.antisymm (show iprop((Φ i ∗ Ψ i) ∗ bigSepL l Φ ∗ bigSepL l Ψ) ⊢ iprop((Φ i ∗ bigSepL l Φ) ∗ Ψ i ∗ bigSepL l Ψ) from ?_)
      (show iprop((Φ i ∗ bigSepL l Φ) ∗ Ψ i ∗ bigSepL l Ψ) ⊢ iprop((Φ i ∗ Ψ i) ∗ bigSepL l Φ ∗ bigSepL l Ψ) from ?_)
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

theorem listed_l8 (Φ : Fin 8 → sProp 𝕄) : bigSepL l8 Φ = bigSep Finset.univ Φ :=
  (bigSep_univ_eq_bigSepL l8 (by decide) (by decide) Φ).symm
theorem listed_l7 (Φ : Fin 7 → sProp 𝕄) : bigSepL l7 Φ = bigSep Finset.univ Φ :=
  (bigSep_univ_eq_bigSepL l7 (by decide) (by decide) Φ).symm

/-- One of the eight and the seven others are all eight. -/
theorem own_and_peers (c : Dev nD) (Φ : Fin 8 → sProp 𝕄) : bigSepL l8 Φ = iprop(Φ c ∗ bigSepL l7 fun p => Φ (peer p c)) := by
  rw [listed_l8, bigSep_univ_at Φ c]
  exact congrArg (fun T : sProp 𝕄 => iprop(Φ c ∗ T)) (bigSep_others c Φ)

/-- What only one of the eight brings. -/
theorem only_own (c : Dev nD) (T : Dev nD → sProp 𝕄) : (bigSepL l8 fun s : Fin 8 => iprop(if s = c then T s else emp)) ⊢ T c := by
  rw [own_and_peers c, if_pos rfl]
  iintro ⟨H, -⟩; iexact H

variable (X : Dev nD → Vec F S512x4096 .f32) (Wm : Dev nD → Vec F S4096x8192 .f32) (K : Dev nD × CK → ℕ) (c : Dev nD)

/-! ## The barriers -/

theorem barSig_spec (p : Fin 7) (rest : List Pay) :
    iprop(records X Wm K ∗ owing c (.bar p :: rest) ∗ tok c (.out (.bar p)) ∗ (∃ f, rqPts c (peer p c) f) ∗ (∃ f, gmPts c (peer p c) f))
      ⊢ Wp c (barSig c p) (fun _ => owing c rest) := by
  rw [barSig, dBar_eq]
  exact signal X Wm K c (.bar p) rest (peer p c) sBar none rfl rfl rfl (Finset.mem_erase.mpr ⟨(peer_ne p c).symm, Finset.mem_univ _⟩)

theorem endSig_spec (p : Fin 7) (rest : List Pay) :
    iprop(records X Wm K ∗ owing c (.fin p :: rest) ∗ tok c (.out (.fin p)))
      ⊢ Wp c (endSig c p) (fun _ => owing c rest) := by
  rw [endSig, dEnd_eq]
  have H := signal X Wm K c (.fin p) rest (peer p c) sEnd (some .fin) rfl rfl rfl (Finset.mem_erase.mpr ⟨(peer_ne p c).symm, Finset.mem_univ _⟩)
  rw [show pay X Wm (peer p c) (some .fin) c = iprop(emp) from rfl] at H
  iintro ⟨HR, HO, Ht⟩
  iapply H
  isplitl [HR]; · iexact HR
  isplitl [HO]; · iexact HO
  isplitl [Ht]; · iexact Ht
  iempintro

/-- All entry signals. -/
theorem barSigs_spec (rest : List Pay) :
    iprop((records X Wm K ∗ owing c (l7.map .bar ++ rest)) ∗ bigSepL l7 fun p => iprop(tok c (.out (.bar p)) ∗ (∃ f, rqPts c (peer p c) f) ∗ (∃ f, gmPts c (peer p c) f)))
      ⊢ Wp c (forL (barSig c) l7) (fun _ => iprop((records X Wm K ∗ owing c rest) ∗ bigSepL l7 fun _ => iprop(emp))) := by
  have H := loop (c := c) (f := barSig (F := F) c) (fun l => iprop(records X Wm K ∗ owing c (l.map Pay.bar ++ rest)))
    (fun p => iprop(tok c (.out (.bar p)) ∗ (∃ f, rqPts c (peer p c) f) ∗ (∃ f, gmPts c (peer p c) f))) (fun _ => iprop(emp)) l7 fun p l _ => by
      rw [List.map_cons, List.cons_append]
      iintro ⟨⟨#HR, HO⟩, HA⟩
      iapply (phase_last (barSig_spec X Wm K c p (l.map .bar ++ rest))) $$ [HO HA]
      · isplitr; · iexact HR
        isplitl [HO]; · iexact HO
        iexact HA
      iintro HO
      isplitl [HO]
      · isplitr; · iexact HR
        iexact HO
      iempintro
  rw [List.map_nil, List.nil_append] at H
  exact H

/-- All exit signals. -/
theorem endSigs_spec :
    iprop((records X Wm K ∗ owing c pFin) ∗ bigSepL l7 fun p => tok c (.out (.fin p)))
      ⊢ Wp c (forL (endSig c) l7) (fun _ => iprop((records X Wm K ∗ owing c []) ∗ bigSepL l7 fun _ => iprop(emp))) :=
  loop (fun l => iprop(records X Wm K ∗ owing c (l.map .fin))) (fun p => tok c (.out (.fin p))) (fun _ => iprop(emp)) l7 fun p l _ => by
    iintro ⟨⟨#HR, HO⟩, HA⟩
    iapply (phase_last (endSig_spec X Wm K c p (l.map .fin))) $$ [HO HA]
    · isplitr; · iexact HR
      isplitl [HO]; · iexact HO
      iexact HA
    iintro HO
    isplitl [HO]
    · isplitr; · iexact HR
      iexact HO
    iempintro

theorem above_cs : ∀ a ∈ pCs, 1 < a.lv := by
  have H : pCs.all (fun a => decide (1 < a.lv)) = true := by decide
  exact fun a ha => of_decide_eq_true (List.all_eq_true.mp H a ha)

/-- The entry wait: every peer's slots for this device. -/
theorem barWait_spec :
    iprop(records X Wm K ∗ levAts L lv ∗ owing c pCs ∗ crd c none 7 ∗ pos c none)
      ⊢ Wp c (semWaitWord sBar 7#32) (fun _ => iprop(owing c pCs ∗ semVal (kcell (c, none)) 0
          ∗ bigSepL l7 fun p => iprop((∃ f, rqPts (peer p c) c f) ∗ (∃ f, gmPts (peer p c) c f)))) := by
  have H := wait_cell X Wm K c none (sm := .reg sBar) rfl (wpE_semWait_eq 𝒱₀ (c : Thread nD τ) none Set.univ) (k' := 7) (by rw [dut_bar_card]; rfl) pCs above_cs
  rw [dut_bar_card, show dut c none = Finset.univ.erase c from rfl, bigSep_others] at H
  exact H
theorem endWait_spec :
    iprop(records X Wm K ∗ levAts L lv ∗ owing c [] ∗ crd c (some .fin) 7 ∗ pos c (some .fin))
      ⊢ Wp c (semWaitWord sEnd 7#32) (fun _ => iprop(owing c [] ∗ semVal (kcell (c, some .fin)) 0)) := by
  have H := wait_cell X Wm K c (some .fin) (sm := .reg sEnd) rfl (wpE_semWait_eq 𝒱₀ (c : Thread nD τ) none Set.univ) (k' := 7) (by rw [dut_fin_card]; rfl) []
    (fun a ha => absurd ha List.not_mem_nil)
  rw [dut_fin_card] at H
  refine H.trans ?_
  refine wp_mono (frame (sig := sig)) (wpE (defs₀ (F := F)) 𝒱₀ (c : Thread nD τ) none) Set.univ fun _ => ?_
  iintro ⟨HO, Hz, -⟩
  isplitl [HO] <;> iassumption

/-! ## The start -/

theorem prelude_spec :
    iprop((((c : Thread nD τ).loc cc0_stg0_0) ↦{fullShare} X c) ∗ (∃ f, xbPts c f) ∗ (∃ f, gsPts c f))
      ⊢ Wp c prelude (fun _ => iprop((((c : Thread nD τ).loc cc0_stg0_0) ↦{fullShare} X c) ∗ xbPts c (k0_pay1 (X c)) ∗ gsPts c (gsAt X Wm c 0))) := by
  unfold xbPts gsPts
  iintro ⟨Hx, ⟨%b, Hb⟩, ⟨%g, Hg⟩⟩
  simp only [prelude, Prog.lift, Prog.bind_op, Prog.bind_ret]
  iapply (wp_load 𝒱₀ (c : Thread nD τ) none Set.univ (m := mX) (Finset.subset_univ _)) $$ Hx; iintro Hx
  rw [read_x]
  iapply (wp_load 𝒱₀ (c : Thread nD τ) none Set.univ (m := mXb) (Finset.subset_univ _)) $$ Hb; iintro Hb
  iapply (wp_store 𝒱₀ (c : Thread nD τ) none Set.univ (m := mXb) (r := Rect.unit (s := S512x4096) ![0, 0] S512x4096.size inb_S512x4096_S512x4096_0_0) (Mk := Finset.univ) (Finset.subset_univ _)) $$ Hb; iintro Hb
  rw [write_xb]
  iapply (wp_load 𝒱₀ (c : Thread nD τ) none Set.univ (m := mGs) (Finset.subset_univ _)) $$ Hg; iintro Hg
  iapply (wp_store 𝒱₀ (c : Thread nD τ) none Set.univ (m := mGs) (r := Rect.unit (s := S1x128) ![0, 0] S1x128.size inb_S1x128_S1x128_0_0) (Mk := Finset.univ) (Finset.subset_univ _)) $$ Hg; iintro Hg
  rw [write_gs]
  rw [wp_ret]; imodintro
  isplitl [Hx]; · iexact Hx
  isplitl [Hb]; · iexact Hb
  iexact Hg

/-! ## The loops -/

theorem steps_spec :
    iprop(stepR X Wm K c l7 ∗ bigSepL l7 fun t => iprop((∃ f, sqPts c (up t) f) ∗ tok c (.out (.cs t)) ∗ tok c (.ocs t) ∗ (∃ f, rqPts (peer t c) c f)))
      ⊢ Wp c (forL (step c) l7) (fun _ => iprop(stepR X Wm K c [] ∗ bigSepL l7 fun t => crd c (some (.cs t)) NC)) :=
  loop (fun l => stepR X Wm K c l)
    (fun t => iprop((∃ f, sqPts c (up t) f) ∗ tok c (.out (.cs t)) ∗ tok c (.ocs t) ∗ (∃ f, rqPts (peer t c) c f))) (fun t => crd c (some (.cs t)) NC) l7 fun t l hl => step_spec X Wm K c t l hl

theorem sendGs_spec (rest : List Pay) :
    iprop((records X Wm K ∗ owing c (l7.map .gs ++ rest))
        ∗ bigSepL l7 fun p => iprop(tok c (.out (.gs p)) ∗ tok c (.ogs p) ∗ gsTok c (up p) (gsAt X Wm c 16) ∗ (∃ f, gmPts (peer p c) c f)))
      ⊢ Wp c (forL (sendG c) l7) (fun _ => iprop((records X Wm K ∗ owing c rest) ∗ bigSepL l7 fun p => crd c (some (.gs p)) NG)) := by
  have H := loop (c := c) (f := sendG (F := F) c) (fun l => iprop(records X Wm K ∗ owing c (l.map Pay.gs ++ rest)))
    (fun p => iprop(tok c (.out (.gs p)) ∗ tok c (.ogs p) ∗ gsTok c (up p) (gsAt X Wm c 16) ∗ (∃ f, gmPts (peer p c) c f))) (fun p => crd c (some (.gs p)) NG) l7 fun p l _ => by
      rw [List.map_cons, List.cons_append]
      iintro ⟨⟨#HR, HO⟩, HA⟩
      iapply (phase_last (sendG_spec X Wm K c p (l.map .gs ++ rest))) $$ [HO HA]
      · isplitr; · iexact HR
        isplitl [HO]; · iexact HO
        iexact HA
      iintro ⟨HO, Hc⟩
      isplitl [HO]
      · isplitr; · iexact HR
        iexact HO
      iexact Hc
  rw [List.map_nil, List.nil_append] at H
  exact H

/-- What every wait keeps. -/
abbrev waitR' : sProp 𝕄 := iprop(records X Wm K ∗ levAts L lv ∗ owing c pFin)

theorem waitCrs_spec : iprop(waitR' X Wm K c ∗ bigSepL l8 fun s => iprop(crd c (some (.cr s)) NC ∗ pos c (some (.cr s))))
    ⊢ Wp c (forL waitCr l8) (fun _ => iprop(waitR' X Wm K c ∗ bigSepL l8 fun s => iprop(semVal (kcell (c, some (.cr s))) 0 ∗ pay X Wm c (some (.cr s)) s))) :=
  loop (fun _ => waitR' X Wm K c) (fun s => iprop(crd c (some (.cr s)) NC ∗ pos c (some (.cr s)))) (fun s => iprop(semVal (kcell (c, some (.cr s))) 0 ∗ pay X Wm c (some (.cr s)) s)) l8 fun s _ _ => waitCr_spec X Wm K c s
theorem waitGrs_spec : iprop(waitR' X Wm K c ∗ bigSepL l8 fun s => iprop(crd c (some (.gr s)) NG ∗ pos c (some (.gr s))))
    ⊢ Wp c (forL waitGr l8) (fun _ => iprop(waitR' X Wm K c ∗ bigSepL l8 fun s => iprop(semVal (kcell (c, some (.gr s))) 0 ∗ pay X Wm c (some (.gr s)) s))) :=
  loop (fun _ => waitR' X Wm K c) (fun s => iprop(crd c (some (.gr s)) NG ∗ pos c (some (.gr s)))) (fun s => iprop(semVal (kcell (c, some (.gr s))) 0 ∗ pay X Wm c (some (.gr s)) s)) l8 fun s _ _ => waitGr_spec X Wm K c s
theorem waitCss_spec : iprop(waitR' X Wm K c ∗ bigSepL l7 fun t => iprop(crd c (some (.cs t)) NC ∗ pos c (some (.cs t))))
    ⊢ Wp c (forL waitCs l7) (fun _ => iprop(waitR' X Wm K c ∗ bigSepL l7 fun t => iprop(semVal (kcell (c, some (.cs t))) 0 ∗ pay X Wm c (some (.cs t)) c))) :=
  loop (fun _ => waitR' X Wm K c) (fun s => iprop(crd c (some (.cs s)) NC ∗ pos c (some (.cs s)))) (fun s => iprop(semVal (kcell (c, some (.cs s))) 0 ∗ pay X Wm c (some (.cs s)) c)) l7 fun s _ _ => waitCs_spec X Wm K c s
theorem waitGss_spec : iprop(waitR' X Wm K c ∗ bigSepL l7 fun p => iprop(crd c (some (.gs p)) NG ∗ pos c (some (.gs p))))
    ⊢ Wp c (forL (waitGs c) l7) (fun _ => iprop(waitR' X Wm K c ∗ bigSepL l7 fun p => iprop(semVal (kcell (c, some (.gs p))) 0 ∗ pay X Wm c (some (.gs p)) c))) :=
  loop (fun _ => waitR' X Wm K c) (fun s => iprop(crd c (some (.gs s)) NG ∗ pos c (some (.gs s)))) (fun s => iprop(semVal (kcell (c, some (.gs s))) 0 ∗ pay X Wm c (some (.gs s)) c)) l7 fun s _ _ => waitGs_spec X Wm K c s

theorem outs_spec : iprop(outAt X Wm c 0 ∗ bigSepL l8 fun s => rqPts c s (RQ X Wm c))
    ⊢ Wp c (forL (outB (GM X Wm)) l8) (fun _ => iprop(outAt X Wm c 8 ∗ bigSepL l8 fun s => rqPts c s (RQ X Wm c))) :=
  loop (fun l => outAt X Wm c (nxt8 l)) (fun s => rqPts c s (RQ X Wm c)) (fun s => rqPts c s (RQ X Wm c)) l8 fun s l hl => outB_spec X Wm c s l hl

theorem outAt_done : outAt X Wm c 8 ⊢ (((c : Thread nD τ).loc cc0_stg1_0) ↦{fullShare} OUT X Wm c) := by
  unfold outAt
  iintro ⟨%f, %hf, H⟩
  rw [show f = OUT X Wm c from funext fun i => hf i (by have h0 : (i 0).val < 4096 := (i 0).isLt; omega)]
  iexact H

/-! ## The shares of the device's maximum, the rows of the maxima -/

theorem gs_split : gsPts c (gsAt X Wm c 16) ⊢ iprop(gsRem c (gsAt X Wm c 16) ∗ gsTok c 7 (gsAt X Wm c 16) ∗ bigSepL l7 fun p => gsTok c (up p) (gsAt X Wm c 16)) := by
  unfold gsPts
  iintro H
  ihave H := (Transfers.pointsTo_toks_split fullShare 8) $$ H
  icases H with ⟨Hr, Ht⟩
  isplitl [Hr]; · unfold gsRem; iexact Hr
  ihave Ht := (show (bigSep Finset.univ (fun i : Fin 8 => (((c : Thread nD τ).loc cc0_scratch5) ↦{Transfers.shareTok fullShare 8 i} gsAt X Wm c 16 : sProp 𝕄))) ⊢ bigSepL l8 (fun i => gsTok c i (gsAt X Wm c 16)) from
    Entails.of_eq (listed_l8 (fun i => gsTok c i (gsAt X Wm c 16))).symm) $$ Ht
  ihave Ht := (show bigSepL l8 (fun i => gsTok c i (gsAt X Wm c 16)) ⊢ iprop(bigSepL l7 (fun p => gsTok c (up p) (gsAt X Wm c 16)) ∗ gsTok c 7 (gsAt X Wm c 16)) from
    Entails.of_eq (bigSepL_append (l7.map up) [7] _ |>.trans (by rw [bigSepL_map]; rfl))) $$ Ht
  icases Ht with ⟨Ht, H7⟩
  isplitl [H7] <;> iassumption
theorem gs_join : iprop(gsRem c (gsAt X Wm c 16) ∗ gsTok c 7 (gsAt X Wm c 16) ∗ bigSepL l7 fun p => gsTok c (up p) (gsAt X Wm c 16)) ⊢ gsPts c (gsAt X Wm c 16) := by
  iintro ⟨Hr, H7, Ht⟩
  ihave Ht := (show iprop(bigSepL l7 (fun p => gsTok c (up p) (gsAt X Wm c 16)) ∗ gsTok c 7 (gsAt X Wm c 16)) ⊢ bigSepL l8 (fun i => gsTok c i (gsAt X Wm c 16)) from
    Entails.of_eq (bigSepL_append (l7.map up) [7] _ |>.trans (by rw [bigSepL_map]; rfl)).symm) $$ [Ht H7]
  · isplitl [Ht] <;> iassumption
  ihave Ht := (show bigSepL l8 (fun i => gsTok c i (gsAt X Wm c 16)) ⊢ (bigSep Finset.univ (fun i : Fin 8 => (((c : Thread nD τ).loc cc0_scratch5) ↦{Transfers.shareTok fullShare 8 i} gsAt X Wm c 16 : sProp 𝕄))) from
    Entails.of_eq (listed_l8 (fun i => gsTok c i (gsAt X Wm c 16)))) $$ Ht
  unfold gsPts gsRem
  iapply (Transfers.pointsTo_toks_join fullShare 8)
  isplitl [Hr] <;> iassumption

/-- The rows of a maxima buffer are the buffer. -/
theorem gm_rows (f : Vec F S8x128 .f32) : bigSepL l8 (fun s => gmPts c s f) = (((c : Thread nD τ).loc cc0_scratch4) ↦{fullShare} f : sProp 𝕄) := by
  rw [listed_l8]
  show _ = (((c : Thread nD τ).loc cc0_scratch4) ↦[(Finset.univ : Finset S8x128.Idx)]{fullShare} f : sProp 𝕄)
  rw [univ_bG]
  exact (pointsTo_biUnion (ℓ := (c : Thread nD τ).loc cc0_scratch4) _ _ bG_disj).symm

/-! ## The body -/

/-- What a device is given. -/
def bodyPre : sProp 𝕄 :=
  iprop((records X Wm K ∗ levAts L lv ∗ owing c pAll)
    ∗ ((((c : Thread nD τ).loc cc0_stg0_0) ↦{fullShare} X c) ∗ (∃ f : Vec F S4096x1024 .f32, ((c : Thread nD τ).loc cc0_stg1_0) ↦{fullShare} f)
        ∗ (∃ f, xbPts c f) ∗ (∃ f, gsPts c f) ∗ bigSepL l4 (fun r => wIdle Wm c 0 r) ∗ bigSepL l4 (fun r => wIdle Wm c 1 r)
        ∗ (bigSepL l7 fun t => iprop(∃ f, sqPts c (up t) f)) ∗ (∃ f, sqPts c 7 f)
        ∗ (∃ f, rqPts c c f) ∗ (bigSepL l7 fun p => iprop(∃ f, rqPts c (peer p c) f))
        ∗ (∃ f, gmPts c c f) ∗ (bigSepL l7 fun p => iprop(∃ f, gmPts c (peer p c) f)))
    ∗ ((bigSepL l7 fun p => tok c (.out (.bar p))) ∗ (bigSepL l7 fun p => tok c (.out (.cs p))) ∗ (bigSepL l7 fun p => tok c (.out (.gs p)))
        ∗ (bigSepL l7 fun p => tok c (.out (.fin p))) ∗ (bigSepL l7 fun p => tok c (.ocs p)) ∗ (bigSepL l7 fun p => tok c (.ogs p)) ∗ tok c .ocr ∗ tok c .ogr)
    ∗ (crd c none 7 ∗ crd c (some .fin) 7 ∗ (bigSepL l7 fun p => crd c (some (.cr (peer p c))) NC) ∗ (bigSepL l7 fun p => crd c (some (.gr (peer p c))) NG))
    ∗ (pos c none ∗ pos c (some .fin) ∗ (bigSepL l7 fun t => pos c (some (.cs t))) ∗ (bigSepL l8 fun s => pos c (some (.cr s)))
        ∗ (bigSepL l7 fun p => pos c (some (.gs p))) ∗ (bigSepL l8 fun s => pos c (some (.gr s)))))

/-- What it ends with. -/
def bodyPost : sProp 𝕄 :=
  iprop(owing c []
    ∗ ((((c : Thread nD τ).loc cc0_stg0_0) ↦{fullShare} X c) ∗ (((c : Thread nD τ).loc cc0_stg1_0) ↦{fullShare} OUT X Wm c)
        ∗ (∃ f, xbPts c f) ∗ (∃ f, gsPts c f) ∗ bigSepL l4 (fun r => wIdle Wm c 0 r) ∗ bigSepL l4 (fun r => wIdle Wm c 1 r)
        ∗ (bigSepL l7 fun t => sqPts c (up t) (SQ X Wm c)) ∗ sqPts c 7 (SQ X Wm c)
        ∗ (bigSepL l8 fun s => rqPts c s (RQ X Wm c)) ∗ (((c : Thread nD τ).loc cc0_scratch4) ↦{fullShare} GM X Wm))
    ∗ (semVal (kcell (c, none)) 0 ∗ semVal (kcell (c, some .fin)) 0 ∗ (bigSepL l7 fun t => semVal (kcell (c, some (.cs t))) 0)
        ∗ (bigSepL l8 fun s => semVal (kcell (c, some (.cr s))) 0) ∗ (bigSepL l7 fun p => semVal (kcell (c, some (.gs p))) 0)
        ∗ (bigSepL l8 fun s => semVal (kcell (c, some (.gr s))) 0)))

theorem bodyD_spec : bodyPre X Wm K c ⊢ Wp c (bodyD c) (fun _ => bodyPost X Wm c) := by
  unfold bodyPre bodyPost bodyD
  iintro ⟨⟨#HR, #Hlev, HO⟩, ⟨Hx, ⟨%o, Ho⟩, Hxb, Hgs, HI0, HI1, Hsq, Hsq7, Hrqc, Hrqp, Hgmc, Hgmp⟩, ⟨Tb, Tc, Tg, Tf, Toc, Tog, Tr, Tgr⟩, ⟨Cb, Cf, Ccr, Cgr⟩, ⟨Pb, Pf, Pcs, Pcr, Pgs, Pgr⟩⟩
  -- entry
  iapply (phase (barSigs_spec X Wm K c pCs)) $$ [HO Tb Hrqp Hgmp]
  · isplitl [HO]
    · isplitr; · iexact HR
      iexact HO
    rw [listed_sep, listed_sep]
    isplitl [Tb]; · iexact Tb
    isplitl [Hrqp] <;> iassumption
  iintro ⟨⟨-, HO⟩, -⟩
  iapply (phase (barWait_spec X Wm K c)) $$ [HO Cb Pb]
  · isplitr; · iexact HR
    isplitr; · iexact Hlev
    isplitl [HO]; · iexact HO
    isplitl [Cb] <;> iassumption
  iintro ⟨HO, Zb, Hslots⟩
  ihave Hslots := (Entails.of_eq (listed_sep l7 (fun p => iprop(∃ f, rqPts (peer p c) c f)) (fun p => iprop(∃ f, gmPts (peer p c) c f)))) $$ Hslots
  icases Hslots with ⟨Hrqp, Hgmp⟩
  iapply (phase (prelude_spec X Wm c)) $$ [Hx Hxb Hgs]
  · isplitl [Hx]; · iexact Hx
    isplitl [Hxb] <;> iassumption
  iintro ⟨Hx, Hxb, Hgs⟩
  -- the steps
  iapply (phase (startW_spec Wm c 0 0)) $$ HI0; iintro HF
  iapply (phase (steps_spec X Wm K c)) $$ [HO HF HI1 Hxb Hgs Hsq Tc Toc Hrqp]
  · isplitl [HO HF HI1 Hxb Hgs]
    · unfold stepR
      isplitr; · iexact HR
      isplitr; · iexact Hlev
      isplitl [HO]; · iexact HO
      isplitl [HF]; · iexact HF
      isplitl [HI1]; · iexact HI1
      isplitl [Hxb]; · iexact Hxb
      iexact Hgs
    rw [listed_sep, listed_sep, listed_sep]
    isplitl [Hsq]; · iexact Hsq
    isplitl [Tc]; · iexact Tc
    isplitl [Toc] <;> iassumption
  iintro ⟨HS, Ccs⟩
  iapply (phase (lastStep_spec X Wm K c)) $$ [HS Hsq7 Tr Hrqc]
  · isplitl [HS]; · iexact HS
    isplitl [Hsq7]; · iexact Hsq7
    isplitl [Tr] <;> iassumption
  iintro ⟨HO, HI0, HI1, Hxb, Hgs, Ccc⟩
  -- the maximum goes out
  ihave Hgs := (gs_split X Wm c) $$ Hgs
  icases Hgs with ⟨Hgr, Hg7, Hgt⟩
  iapply (phase (ownG_spec X Wm K c)) $$ [Tgr Hg7 Hgmc]
  · isplitr; · iexact HR
    isplitl [Tgr]; · iexact Tgr
    isplitl [Hg7] <;> iassumption
  iintro Cgc
  iapply (phase (sendGs_spec X Wm K c pFin)) $$ [HO Tg Tog Hgt Hgmp]
  · isplitl [HO]
    · isplitr; · iexact HR
      iexact HO
    rw [listed_sep, listed_sep, listed_sep]
    isplitl [Tg]; · iexact Tg
    isplitl [Tog]; · iexact Tog
    isplitl [Hgt] <;> iassumption
  iintro ⟨⟨-, HO⟩, Cgs⟩
  -- the waits
  iapply (phase (waitCrs_spec X Wm K c)) $$ [HO Ccc Ccr Pcr]
  · isplitl [HO]
    · isplitr; · iexact HR
      isplitr <;> iassumption
    rw [listed_sep]
    isplitl [Ccc Ccr]
    · rw [own_and_peers c]; isplitl [Ccc] <;> iassumption
    iexact Pcr
  iintro ⟨⟨-, -, HO⟩, HB⟩
  ihave HB := (Entails.of_eq (listed_sep l8 (fun s => semVal (kcell (c, some (.cr s))) 0) (fun s => pay X Wm c (some (.cr s)) s))) $$ HB
  icases HB with ⟨Zcr, HB⟩
  ihave HB := (show (bigSepL l8 fun s => pay X Wm c (some (.cr s)) s) ⊢ _ from Entails.of_eq (listed_sep l8 (fun s => rqPts c s (RQ X Wm c)) (fun s : Fin 8 => iprop(if s = c then sqPts c 7 (SQ X Wm c) else emp)))) $$ HB
  icases HB with ⟨Hrq, HB⟩
  ihave Hsq7 := (only_own c (fun _ => sqPts c 7 (SQ X Wm c))) $$ HB
  iapply (phase (waitGrs_spec X Wm K c)) $$ [HO Cgc Cgr Pgr]
  · isplitl [HO]
    · isplitr; · iexact HR
      isplitr <;> iassumption
    rw [listed_sep]
    isplitl [Cgc Cgr]
    · rw [own_and_peers c]; isplitl [Cgc] <;> iassumption
    iexact Pgr
  iintro ⟨⟨-, -, HO⟩, HB⟩
  ihave HB := (Entails.of_eq (listed_sep l8 (fun s => semVal (kcell (c, some (.gr s))) 0) (fun s => pay X Wm c (some (.gr s)) s))) $$ HB
  icases HB with ⟨Zgr, HB⟩
  ihave HB := (show (bigSepL l8 fun s => pay X Wm c (some (.gr s)) s) ⊢ _ from Entails.of_eq (listed_sep l8 (fun s => gmPts c s (GM X Wm)) (fun s : Fin 8 => iprop(if s = c then gsTok c 7 (gsAt X Wm c 16) else emp)))) $$ HB
  icases HB with ⟨Hgm, HB⟩
  ihave Hg7 := (only_own c (fun _ => gsTok c 7 (gsAt X Wm c 16))) $$ HB
  iapply (phase (waitCss_spec X Wm K c)) $$ [HO Ccs Pcs]
  · isplitl [HO]
    · isplitr; · iexact HR
      isplitr <;> iassumption
    rw [listed_sep]
    isplitl [Ccs] <;> iassumption
  iintro ⟨⟨-, -, HO⟩, HB⟩
  ihave HB := (Entails.of_eq (listed_sep l7 (fun t => semVal (kcell (c, some (.cs t))) 0) (fun t => pay X Wm c (some (.cs t)) c))) $$ HB
  icases HB with ⟨Zcs, Hsq⟩
  iapply (phase (waitGss_spec X Wm K c)) $$ [HO Cgs Pgs]
  · isplitl [HO]
    · isplitr; · iexact HR
      isplitr <;> iassumption
    rw [listed_sep]
    isplitl [Cgs] <;> iassumption
  iintro ⟨⟨-, -, HO⟩, HB⟩
  ihave HB := (Entails.of_eq (listed_sep l7 (fun t => semVal (kcell (c, some (.gs t))) 0) (fun t => pay X Wm c (some (.gs t)) c))) $$ HB
  icases HB with ⟨Zgs, Hgt⟩
  ihave Hgs := (gs_join X Wm c) $$ [Hgr Hg7 Hgt]
  · isplitl [Hgr]; · iexact Hgr
    isplitl [Hg7]; · iexact Hg7
    iexact Hgt
  -- the output
  ihave Hgm := (Entails.of_eq (gm_rows c (GM X Wm))) $$ Hgm
  simp only [Prog.lift, Prog.bind_op, Prog.bind_ret]
  iapply (wp_load 𝒱₀ (c : Thread nD τ) none Set.univ (m := mGm) (Finset.subset_univ _)) $$ Hgm; iintro Hgm
  rw [read_gm]
  iapply (phase (outs_spec X Wm c)) $$ [Ho Hrq]
  · isplitl [Ho]
    · unfold outAt; iexists o
      isplitr
      · ipureintro; intro i h; exact absurd h (by omega)
      iexact Ho
    iexact Hrq
  iintro ⟨Ho, Hrq⟩
  ihave Ho := (outAt_done X Wm c) $$ Ho
  -- exit
  iapply (phase (endSigs_spec X Wm K c)) $$ [HO Tf]
  · isplitl [HO]
    · isplitr; · iexact HR
      iexact HO
    iexact Tf
  iintro ⟨⟨-, HO⟩, -⟩
  iapply (phase_last (endWait_spec X Wm K c)) $$ [HO Cf Pf]
  · isplitr; · iexact HR
    isplitr; · iexact Hlev
    isplitl [HO]; · iexact HO
    isplitl [Cf] <;> iassumption
  iintro ⟨HO, Zf⟩
  isplitl [HO]; · iexact HO
  isplitr [Zb Zf Zcs Zcr Zgs Zgr]
  · isplitl [Hx]; · iexact Hx
    isplitl [Ho]; · iexact Ho
    isplitl [Hxb]; · iexists _; iexact Hxb
    isplitl [Hgs]; · iexists _; iexact Hgs
    isplitl [HI0]; · iexact HI0
    isplitl [HI1]; · iexact HI1
    isplitl [Hsq]; · iexact Hsq
    isplitl [Hsq7]; · iexact Hsq7
    isplitl [Hrq] <;> iassumption
  isplitl [Zb]; · iexact Zb
  isplitl [Zf]; · iexact Zf
  isplitl [Zcs]; · iexact Zcs
  isplitl [Zcr]; · iexact Zcr
  isplitl [Zgs] <;> iassumption

theorem devId {α : Type} (k : Dev nD → P F α) {A : sProp 𝕄} {Q : α → sProp 𝕄} (h : A ⊢ Wp c (k c) Q) : A ⊢ Wp c (.op .deviceId k) Q := by
  unfold Wp; rw [wp_deviceId]; exact h

theorem bodyS_spec : bodyPre X Wm K c ⊢ Wp c bodyS (fun _ => bodyPost X Wm c) := by
  exact devId c _ (bodyD_spec X Wm K c)

end Cert.KernelIdeal.Run

end
-- ==== Proof.Buffers.lean ====
/- The device's buffers as the body wants them: cut into the pieces it starts from, and put together again at the end. -/
module

public import proofs.«01_k».proof.Proof.Body

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (Wm : Dev nD → Vec F S4096x8192 .f32) (K : Dev nD × CK → ℕ) (c : Dev nD)

/-! ## Listings -/

/-- The eight halves and row groups. -/
theorem listed_24 (Φ : Fin 2 × Fin 4 → sProp 𝕄) : bigSep Finset.univ Φ = iprop((bigSepL l4 fun r => Φ (0, r)) ∗ bigSepL l4 fun r => Φ (1, r)) := by
  rw [bigSep_univ_eq_bigSepL (l4.map (fun r => ((0 : Fin 2), r)) ++ l4.map (fun r => ((1 : Fin 2), r))) (by decide) (by decide) Φ,
    bigSepL_append, bigSepL_map, bigSepL_map]

/-- The eight read shares, by half and row group. -/
theorem listed_wix (Φ : Fin 8 → sProp 𝕄) : bigSep Finset.univ Φ = iprop((bigSepL l4 fun r => Φ (wix 0 r)) ∗ bigSepL l4 fun r => Φ (wix 1 r)) := by
  rw [bigSep_univ_eq_bigSepL (l4.map (wix 0) ++ l4.map (wix 1)) (by decide) (by decide) Φ, bigSepL_append, bigSepL_map, bigSepL_map]

theorem listed_up (Φ : Fin 8 → sProp 𝕄) : bigSepL l8 Φ = iprop((bigSepL l7 fun p => Φ (up p)) ∗ Φ 7) :=
  bigSepL_append (l7.map up) [7] _ |>.trans (by rw [bigSepL_map]; rfl)

/-- The protocol's semaphores: the barrier and the own ones. -/
theorem listed_CK (Φ : CK → sProp 𝕄) : bigSep Finset.univ Φ = iprop(Φ none ∗ bigSep Finset.univ fun k : SK => Φ (some k)) := by
  rw [bigSep_univ_eq_bigSepL ((none : CK) :: allSK.map some) (by decide +kernel) (by decide +kernel) Φ, listed_cons, bigSepL_map,
    ← bigSep_univ_eq_bigSepL allSK univ_SK nodup_SK fun k => Φ (some k)]

theorem listed_SK (Φ : SK → sProp 𝕄) : bigSep Finset.univ Φ
    = iprop(Φ .fin ∗ (bigSepL l7 fun t => Φ (.cs t)) ∗ (bigSepL l8 fun s => Φ (.cr s)) ∗ (bigSepL l7 fun p => Φ (.gs p)) ∗ bigSepL l8 fun s => Φ (.gr s)) := by
  rw [bigSep_univ_eq_bigSepL allSK univ_SK nodup_SK Φ, allSK, List.singleton_append, listed_cons, bigSepL_append, bigSepL_append, bigSepL_append,
    bigSepL_map, bigSepL_map, bigSepL_map, bigSepL_map]

theorem listed_PK (Φ : PK → sProp 𝕄) : bigSep Finset.univ Φ
    = iprop((bigSepL l7 fun p => Φ (.out (.bar p))) ∗ (bigSepL l7 fun p => Φ (.out (.cs p))) ∗ (bigSepL l7 fun p => Φ (.out (.gs p)))
        ∗ (bigSepL l7 fun p => Φ (.out (.fin p))) ∗ (bigSepL l7 fun p => Φ (.ocs p)) ∗ (bigSepL l7 fun p => Φ (.ogs p)) ∗ Φ .ocr ∗ Φ .ogr) := by
  rw [bigSep_univ_eq_bigSepL allPK univ_PK nodup_PK Φ, allPK, bigSepL_append, bigSepL_append, bigSepL_append, bigSepL_append, bigSepL_append, bigSepL_append,
    bigSepL_map, bigSepL_map, bigSepL_map, bigSepL_map, bigSepL_map, bigSepL_map]
  rfl

/-! ## The weight buffer -/

theorem univ_bW2 : (Finset.univ : Finset S2x4096x512.Idx) = (Finset.univ : Finset (Fin 2 × Fin 4)).biUnion fun hr => (bW hr.1 hr.2).set := by
  ext i
  refine ⟨fun _ => ?_, fun _ => Finset.mem_univ _⟩
  have h1 : i ∈ (Finset.univ : Finset (Fin 2)).biUnion fun h => (bWs h).set := univ_bWs ▸ Finset.mem_univ i
  obtain ⟨h, -, hi⟩ := Finset.mem_biUnion.mp h1
  rw [bWs_eq] at hi
  obtain ⟨r, -, hr⟩ := Finset.mem_biUnion.mp hi
  exact Finset.mem_biUnion.mpr ⟨(h, r), Finset.mem_univ _, hr⟩
theorem bW2_disj : ∀ a ∈ (Finset.univ : Finset (Fin 2 × Fin 4)), ∀ b ∈ (Finset.univ : Finset (Fin 2 × Fin 4)), a ≠ b →
    Disjoint (bW a.1 a.2).set (bW b.1 b.2).set := by
  rintro ⟨h, r⟩ - ⟨h', r'⟩ - hne
  refine Finset.disjoint_left.mpr fun i hi hi' => hne ?_
  have a := (mem_bW _ _ _).mp hi; have b := (mem_bW _ _ _).mp hi'
  exact Prod.ext (Fin.ext (by simp only at a b ⊢; omega)) (Fin.ext (by simp only at a b ⊢; omega))

theorem wb_cut (f : Vec F S2x4096x512 .f32) :
    (((c : Thread nD τ).loc cc0_scratch1) ↦{fullShare} f : sProp 𝕄) ⊢ bigSep Finset.univ fun hr : Fin 2 × Fin 4 => iprop(∃ f, wbPts c hr.1 hr.2 f) := by
  have H : (((c : Thread nD τ).loc cc0_scratch1) ↦{fullShare} f : sProp 𝕄) = bigSep Finset.univ fun hr : Fin 2 × Fin 4 => wbPts c hr.1 hr.2 f := by
    show (((c : Thread nD τ).loc cc0_scratch1) ↦[(Finset.univ : Finset S2x4096x512.Idx)]{fullShare} f : sProp 𝕄) = _
    rw [univ_bW2]
    exact pointsTo_biUnion (ℓ := (c : Thread nD τ).loc cc0_scratch1) _ _ bW2_disj
  rw [H]
  refine bigSep_mono fun hr _ => ?_
  show (wbPts c hr.1 hr.2 f : sProp 𝕄) ⊢ iprop(∃ f, wbPts c hr.1 hr.2 f)
  iintro H; iexists f; iexact H

theorem wb_whole : (bigSep Finset.univ fun hr : Fin 2 × Fin 4 => iprop(∃ f, wbPts c hr.1 hr.2 f))
    ⊢ (iprop(∃ f : Vec F S2x4096x512 .f32, ((c : Thread nD τ).loc cc0_scratch1) ↦{fullShare} f) : sProp 𝕄) := by
  haveI : Nonempty (Vec F S2x4096x512 .f32) := ⟨fun _ => k0_pay2 (F := F) (ValueIdx.ix2 (n0 := 1) (n1 := 128) 0 0)⟩
  iintro H
  ihave H := (BI.bigSep_exists_pi Finset.univ (fun (hr : Fin 2 × Fin 4) (f : Vec F S2x4096x512 .f32) => (wbPts c hr.1 hr.2 f : sProp 𝕄))) $$ H
  icases H with ⟨%fs, H⟩
  unfold wbPts
  ihave H := (pointsTo_biUnion_join (ℓ := (c : Thread nD τ).loc cc0_scratch1) (q := fullShare) Finset.univ (fun hr : Fin 2 × Fin 4 => (bW hr.1 hr.2).set) fs (fs (0, 0)) bW2_disj) $$ H
  icases H with ⟨%g, -, H⟩
  iexists g
  rw [← univ_bW2]
  iexact H

/-! ## The rows of the code buffers and of the maxima -/

theorem sq_rows (f : Vec F S8x512x1024 .i16) : bigSepL l8 (fun s => sqPts c s f) = (((c : Thread nD τ).loc cc0_scratch2) ↦{fullShare} f : sProp 𝕄) := by
  rw [listed_l8]
  show _ = (((c : Thread nD τ).loc cc0_scratch2) ↦[(Finset.univ : Finset S8x512x1024.Idx)]{fullShare} f : sProp 𝕄)
  rw [univ_bQ]
  exact (pointsTo_biUnion (ℓ := (c : Thread nD τ).loc cc0_scratch2) _ _ bQ_disj).symm
theorem rq_rows (f : Vec F S8x512x1024 .i16) : bigSepL l8 (fun s => rqPts c s f) = (((c : Thread nD τ).loc cc0_scratch3) ↦{fullShare} f : sProp 𝕄) := by
  rw [listed_l8]
  show _ = (((c : Thread nD τ).loc cc0_scratch3) ↦[(Finset.univ : Finset S8x512x1024.Idx)]{fullShare} f : sProp 𝕄)
  rw [univ_bQ]
  exact (pointsTo_biUnion (ℓ := (c : Thread nD τ).loc cc0_scratch3) _ _ bQ_disj).symm

/-- Contents one by one, given in common. -/
theorem each {I V : Type} (l : List I) (Φ : I → V → sProp 𝕄) (f : V) : bigSepL l (fun i => Φ i f) ⊢ bigSepL l fun i => iprop(∃ f, Φ i f) :=
  bigSepL_mono fun i _ => by
    show Φ i f ⊢ iprop(∃ f, Φ i f)
    iintro H; iexists f; iexact H

theorem sq_cut (f : Vec F S8x512x1024 .i16) : (((c : Thread nD τ).loc cc0_scratch2) ↦{fullShare} f : sProp 𝕄)
    ⊢ iprop((bigSepL l7 fun t => iprop(∃ f, sqPts c (up t) f)) ∗ (∃ f, sqPts c 7 f)) := by
  rw [← sq_rows]
  exact (each l8 (sqPts c) f).trans (Entails.of_eq (listed_up _))
theorem rq_cut (f : Vec F S8x512x1024 .i16) : (((c : Thread nD τ).loc cc0_scratch3) ↦{fullShare} f : sProp 𝕄)
    ⊢ iprop((∃ f, rqPts c c f) ∗ (bigSepL l7 fun p => iprop(∃ f, rqPts c (peer p c) f))) := by
  rw [← rq_rows]
  exact (each l8 (rqPts c) f).trans (Entails.of_eq (own_and_peers c _))
theorem gm_cut (f : Vec F S8x128 .f32) : (((c : Thread nD τ).loc cc0_scratch4) ↦{fullShare} f : sProp 𝕄)
    ⊢ iprop((∃ f, gmPts c c f) ∗ (bigSepL l7 fun p => iprop(∃ f, gmPts c (peer p c) f))) := by
  rw [← gm_rows]
  exact (each l8 (gmPts c) f).trans (Entails.of_eq (own_and_peers c _))

/-! ## The weights' read shares -/

/-- What is left of the weights beside the eight shares. -/
def wRem : sProp 𝕄 := ((c : Thread nD τ).loc main_arg1) ↦{Transfers.shareDrop fullShare 8} Wm c

theorem w_cut : (((c : Thread nD τ).loc main_arg1) ↦{fullShare} Wm c : sProp 𝕄)
    ⊢ iprop(wRem Wm c ∗ (bigSepL l4 fun r => wSh Wm c 0 r Finset.univ) ∗ bigSepL l4 fun r => wSh Wm c 1 r Finset.univ) := by
  iintro H
  ihave H := (Transfers.pointsTo_toks_split fullShare 8) $$ H
  icases H with ⟨Hr, Ht⟩
  isplitl [Hr]; · unfold wRem; iexact Hr
  ihave Ht := (Entails.of_eq (listed_wix (fun i : Fin 8 => (((c : Thread nD τ).loc main_arg1) ↦{Transfers.shareTok fullShare 8 i} Wm c : sProp 𝕄)))) $$ Ht
  unfold wSh
  iexact Ht
theorem w_whole : iprop(wRem Wm c ∗ (bigSepL l4 fun r => wSh Wm c 0 r Finset.univ) ∗ bigSepL l4 fun r => wSh Wm c 1 r Finset.univ)
    ⊢ (((c : Thread nD τ).loc main_arg1) ↦{fullShare} Wm c : sProp 𝕄) := by
  iintro ⟨Hr, Ht⟩
  unfold wRem wSh
  ihave Ht := (show iprop((bigSepL l4 fun r => (((c : Thread nD τ).loc main_arg1) ↦{Transfers.shareTok fullShare 8 (wix 0 r)} Wm c : sProp 𝕄))
      ∗ bigSepL l4 fun r => (((c : Thread nD τ).loc main_arg1) ↦{Transfers.shareTok fullShare 8 (wix 1 r)} Wm c : sProp 𝕄))
    ⊢ bigSep Finset.univ (fun i : Fin 8 => (((c : Thread nD τ).loc main_arg1) ↦{Transfers.shareTok fullShare 8 i} Wm c : sProp 𝕄)) from
      Entails.of_eq (listed_wix (fun i : Fin 8 => (((c : Thread nD τ).loc main_arg1) ↦{Transfers.shareTok fullShare 8 i} Wm c : sProp 𝕄))).symm) $$ Ht
  iapply (Transfers.pointsTo_toks_join fullShare 8)
  isplitl [Hr] <;> iassumption

/-! ## All of it -/

/-- The kernel's own buffers, whole, at some contents. -/
def scratch : sProp 𝕄 :=
  iprop((∃ f : Vec F S512x4096 .bf16, ((c : Thread nD τ).loc cc0_scratch0) ↦{fullShare} f)
    ∗ (∃ f : Vec F S2x4096x512 .f32, ((c : Thread nD τ).loc cc0_scratch1) ↦{fullShare} f)
    ∗ (∃ f : Vec F S8x512x1024 .i16, ((c : Thread nD τ).loc cc0_scratch2) ↦{fullShare} f)
    ∗ (∃ f : Vec F S8x512x1024 .i16, ((c : Thread nD τ).loc cc0_scratch3) ↦{fullShare} f)
    ∗ (∃ f : Vec F S8x128 .f32, ((c : Thread nD τ).loc cc0_scratch4) ↦{fullShare} f)
    ∗ (∃ f : Vec F S1x128 .f32, ((c : Thread nD τ).loc cc0_scratch5) ↦{fullShare} f))

/-- The semaphores of the weight transfers. -/
def wSems : sProp 𝕄 := bigSep Finset.univ fun hr : Fin 2 × Fin 4 => wSem c hr.1 hr.2

theorem idle_intro : iprop((bigSep Finset.univ fun hr : Fin 2 × Fin 4 => iprop(∃ f, wbPts c hr.1 hr.2 f)) ∗ wSems c
      ∗ (bigSepL l4 fun r => wSh Wm c 0 r Finset.univ) ∗ bigSepL l4 fun r => wSh Wm c 1 r Finset.univ)
    ⊢ iprop((bigSepL l4 fun r => wIdle Wm c 0 r) ∗ bigSepL l4 fun r => wIdle Wm c 1 r) := by
  unfold wSems wIdle
  rw [listed_24, listed_24, listed_sep, listed_sep, listed_sep, listed_sep]
  iintro ⟨⟨H0, H1⟩, ⟨Z0, Z1⟩, S0, S1⟩
  isplitl [H0 Z0 S0]
  · isplitl [H0]; · iexact H0
    isplitl [S0]; · iexact S0
    iexact Z0
  isplitl [H1]; · iexact H1
  isplitl [S1]; · iexact S1
  iexact Z1
theorem idle_elim : iprop((bigSepL l4 fun r => wIdle Wm c 0 r) ∗ bigSepL l4 fun r => wIdle Wm c 1 r)
    ⊢ iprop((bigSep Finset.univ fun hr : Fin 2 × Fin 4 => iprop(∃ f, wbPts c hr.1 hr.2 f)) ∗ wSems c
      ∗ (bigSepL l4 fun r => wSh Wm c 0 r Finset.univ) ∗ bigSepL l4 fun r => wSh Wm c 1 r Finset.univ) := by
  unfold wSems wIdle
  rw [listed_24, listed_24, listed_sep, listed_sep, listed_sep, listed_sep]
  iintro ⟨⟨H0, S0, Z0⟩, H1, S1, Z1⟩
  isplitl [H0 H1]
  · isplitl [H0]; · iexact H0
    iexact H1
  isplitl [Z0 Z1]
  · isplitl [Z0]; · iexact Z0
    iexact Z1
  isplitl [S0]; · iexact S0
  iexact S1

/-- The device's own buffers as the body starts from them. -/
theorem cut : iprop(scratch c ∗ wSems c ∗ ((c : Thread nD τ).loc main_arg1) ↦{fullShare} Wm c)
    ⊢ iprop(wRem Wm c ∗ (∃ f, xbPts c f) ∗ (∃ f, gsPts c f) ∗ bigSepL l4 (fun r => wIdle Wm c 0 r) ∗ bigSepL l4 (fun r => wIdle Wm c 1 r)
        ∗ (bigSepL l7 fun t => iprop(∃ f, sqPts c (up t) f)) ∗ (∃ f, sqPts c 7 f)
        ∗ (∃ f, rqPts c c f) ∗ (bigSepL l7 fun p => iprop(∃ f, rqPts c (peer p c) f))
        ∗ (∃ f, gmPts c c f) ∗ (bigSepL l7 fun p => iprop(∃ f, gmPts c (peer p c) f))) := by
  unfold scratch
  iintro ⟨⟨Hxb, ⟨%fw, Hw⟩, ⟨%fs, Hs⟩, ⟨%fr, Hr⟩, ⟨%fm, Hm⟩, Hg⟩, HZ, HW⟩
  ihave HW := (w_cut Wm c) $$ HW
  icases HW with ⟨HR, HS⟩
  ihave Hw := (wb_cut c fw) $$ Hw
  ihave HI := (idle_intro Wm c) $$ [Hw HZ HS]
  · isplitl [Hw]; · iexact Hw
    isplitl [HZ]; · iexact HZ
    iexact HS
  icases HI with ⟨I0, I1⟩
  ihave Hs := (sq_cut c fs) $$ Hs
  icases Hs with ⟨Hs, Hs7⟩
  ihave Hr := (rq_cut c fr) $$ Hr
  icases Hr with ⟨Hrc, Hrp⟩
  ihave Hm := (gm_cut c fm) $$ Hm
  icases Hm with ⟨Hmc, Hmp⟩
  isplitl [HR]; · iexact HR
  isplitl [Hxb]; · unfold xbPts; iexact Hxb
  isplitl [Hg]; · unfold gsPts; iexact Hg
  isplitl [I0]; · iexact I0
  isplitl [I1]; · iexact I1
  isplitl [Hs]; · iexact Hs
  isplitl [Hs7]; · iexact Hs7
  isplitl [Hrc]; · iexact Hrc
  isplitl [Hrp]; · iexact Hrp
  isplitl [Hmc]; · iexact Hmc
  iexact Hmp

/-- And whole again from what the body leaves. -/
theorem whole : iprop(wRem Wm c ∗ (∃ f, xbPts c f) ∗ (∃ f, gsPts c f) ∗ bigSepL l4 (fun r => wIdle Wm c 0 r) ∗ bigSepL l4 (fun r => wIdle Wm c 1 r)
        ∗ (bigSepL l7 fun t => sqPts c (up t) (SQ X Wm c)) ∗ sqPts c 7 (SQ X Wm c) ∗ (bigSepL l8 fun s => rqPts c s (RQ X Wm c))
        ∗ (((c : Thread nD τ).loc cc0_scratch4) ↦{fullShare} GM X Wm))
    ⊢ iprop(scratch c ∗ wSems c ∗ ((c : Thread nD τ).loc main_arg1) ↦{fullShare} Wm c) := by
  iintro ⟨HR, Hxb, Hg, I0, I1, Hs, Hs7, Hr, Hm⟩
  ihave HI := (idle_elim Wm c) $$ [I0 I1]
  · isplitl [I0]; · iexact I0
    iexact I1
  icases HI with ⟨Hw, HZ, HS⟩
  ihave Hw := (wb_whole c) $$ Hw
  ihave HW := (w_whole Wm c) $$ [HR HS]
  · isplitl [HR]; · iexact HR
    iexact HS
  ihave Hs := (Entails.of_eq (listed_up (fun s => sqPts c s (SQ X Wm c))).symm) $$ [Hs Hs7]
  · isplitl [Hs]; · iexact Hs
    iexact Hs7
  ihave Hs := (Entails.of_eq (sq_rows c (SQ X Wm c))) $$ Hs
  ihave Hr := (Entails.of_eq (rq_rows c (RQ X Wm c))) $$ Hr
  unfold scratch
  isplitl [Hxb Hw Hs Hr Hm Hg]
  · isplitl [Hxb]; · unfold xbPts; iexact Hxb
    isplitl [Hw]; · iexact Hw
    isplitl [Hs]; · iexists _; iexact Hs
    isplitl [Hr]; · iexists _; iexact Hr
    isplitl [Hm]; · iexists _; iexact Hm
    unfold gsPts; iexact Hg
  isplitl [HZ]; · iexact HZ
  iexact HW

end Cert.KernelIdeal.Run

end
-- ==== Proof.Launch.lean ====
/- The launch: what the program starts from, dealt to the devices, and the run of the whole program. -/
module

public import proofs.«01_k».proof.Proof.Buffers
public import proofs.«01_k».proof.Proof.Gen.KernelIdeal.Launch
public import Idealize.ShloMosaic.Lib.Pipeline.Launch
public import Idealize.ShloMosaic.Lib.Quiescent
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pipeline's data -/

section Data

variable (m : (ℓ : Loc nD τ sig) → Buf (Elt F) ℓ) (ρ : Dev nD → PrngReg)

/-- The start: any memory, all counters at zero. -/
abbrev s₀ : MemSt nD τ sig (Elt F) := ⟨m, fun _ => 0, ρ⟩

/-- Device `c`'s rows of the first operand. -/
def Xm (c : Dev nD) : Vec F S512x4096 .f32 := (win0_0.blk (0 : Fin 1)).view.read (Elt F) (m ((c : Thread nD τ).loc main_arg0))
theorem Xm_eq (c : Dev nD) : Xm m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- The weights on device `c`. -/
def Wmm (c : Dev nD) : Vec F S4096x8192 .f32 := m ((c : Thread nD τ).loc main_arg1)

/-- The kernel's own semaphores: eight for the weights, the rest the protocol's. -/
def osem : (Fin 2 × Fin 4) ⊕ SK → SemLoc sig
  | .inl hr => .dma (sW hr.1 hr.2)
  | .inr k => ssem k
theorem ownSemFacts : Pipeline.OwnSemFacts cfg0.spec osem := by decide +kernel

/-- What the protocol gives a device: every cell's invariant, its positions, its tokens. -/
def ghost (K : Dev nD × CK → ℕ) (c : Dev nD) : sProp 𝕄 :=
  iprop(records (Xm m) (Wmm m) K ∗ (bigSep Finset.univ fun k : CK => pos c k) ∗ (bigSep Finset.univ fun a : PK => tok c a) ∗ wSems c)

/-- The credit a device waits with. -/
def credits (c : Dev nD) : sProp 𝕄 :=
  iprop(crd c none 7 ∗ crd c (some .fin) 7 ∗ (bigSepL l7 fun p => crd c (some (.cr (peer p c))) NC) ∗ (bigSepL l7 fun p => crd c (some (.gr (peer p c))) NG))

/-- The weights, whole. -/
def wAll (c : Dev nD) : sProp 𝕄 := ((c : Thread nD τ).loc main_arg1) ↦{fullShare} Wmm m c

/-- What a device's body starts from beside its buffers. -/
def start (c : Dev nD) : sProp 𝕄 := iprop((∃ K, ghost m K c) ∗ credits c ∗ levAts L lv ∗ wAll m c)

/-- All own semaphores at zero, and the barrier's. -/
def closed (c : Dev nD) : sProp 𝕄 := iprop(wSems c ∗ bigSep Finset.univ fun k : CK => semVal (kcell (c, k)) 0)

def Φ₀ (c : Dev nD) : sProp 𝕄 := iprop(start m c ∗ scratch c)
def Φ₁ (c : Dev nD) : sProp 𝕄 := iprop(scratch c ∗ closed c ∗ wAll m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xm m c
    | ⟨1, _⟩ => OUT (Xm m) (Wmm m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer at given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The body's obligation -/

theorem before_x (c : Dev nD) (d) : (dats m ρ 0 c).before (0 : Fin 2) t₀ d = Xm m c := by
  unfold Dat.before; rw [if_pos (fetch_0 t₀)]; rfl

/-- From the protocol's share, the credit and the buffers to what the body starts from. -/
theorem pre_intro (K : Dev nD × CK → ℕ) (c : Dev nD) :
    iprop(ghost m K c ∗ credits c ∗ levAts L lv ∗ wAll m c ∗ scratch c ∗ owing c pAll
        ∗ (((c : Thread nD τ).loc cc0_stg0_0) ↦{fullShare} Xm m c) ∗ (∃ f : Vec F S4096x1024 .f32, ((c : Thread nD τ).loc cc0_stg1_0) ↦{fullShare} f))
      ⊢ iprop(bodyPre (Xm m) (Wmm m) K c ∗ wRem (Wmm m) c) := by
  unfold ghost credits wAll bodyPre
  rw [listed_CK, listed_SK, listed_PK]
  iintro ⟨⟨HR, ⟨Pb, Pf, Pcs, Pcr, Pgs, Pgr⟩, ⟨Tb, Tc, Tg, Tf, Toc, Tog, Tcr, Tgr⟩, HZ⟩, ⟨Cb, Cf, Cc, Cg⟩, Hlv, HW, HS, HO, Hx, Ho⟩
  ihave H := (cut (Wmm m) c) $$ [HS HZ HW]
  · isplitl [HS]; · iexact HS
    isplitl [HZ]; · iexact HZ
    iexact HW
  icases H with ⟨Hrem, Hxb, Hgs, I0, I1, Hs, Hs7, Hrc, Hrp, Hmc, Hmp⟩
  isplitr [Hrem]
  · isplitl [HR Hlv HO]
    · isplitl [HR]; · iexact HR
      isplitl [Hlv]; · iexact Hlv
      iexact HO
    isplitl [Hx Ho Hxb Hgs I0 I1 Hs Hs7 Hrc Hrp Hmc Hmp]
    · isplitl [Hx]; · iexact Hx
      isplitl [Ho]; · iexact Ho
      isplitl [Hxb]; · iexact Hxb
      isplitl [Hgs]; · iexact Hgs
      isplitl [I0]; · iexact I0
      isplitl [I1]; · iexact I1
      isplitl [Hs]; · iexact Hs
      isplitl [Hs7]; · iexact Hs7
      isplitl [Hrc]; · iexact Hrc
      isplitl [Hrp]; · iexact Hrp
      isplitl [Hmc]; · iexact Hmc
      iexact Hmp
    isplitl [Tb Tc Tg Tf Toc Tog Tcr Tgr]
    · isplitl [Tb]; · iexact Tb
      isplitl [Tc]; · iexact Tc
      isplitl [Tg]; · iexact Tg
      isplitl [Tf]; · iexact Tf
      isplitl [Toc]; · iexact Toc
      isplitl [Tog]; · iexact Tog
      isplitl [Tcr]; · iexact Tcr
      iexact Tgr
    isplitl [Cb Cf Cc Cg]
    · isplitl [Cb]; · iexact Cb
      isplitl [Cf]; · iexact Cf
      isplitl [Cc]; · iexact Cc
      iexact Cg
    isplitl [Pb]; · iexact Pb
    isplitl [Pf]; · iexact Pf
    isplitl [Pcs]; · iexact Pcs
    isplitl [Pcr]; · iexact Pcr
    isplitl [Pgs]; · iexact Pgs
    iexact Pgr
  iexact Hrem

/-- From what the body leaves to what the launch takes back. -/
theorem post_elim (c : Dev nD) :
    iprop(bodyPost (Xm m) (Wmm m) c ∗ wRem (Wmm m) c)
      ⊢ iprop(Φ₁ m c ∗ owing c [] ∗ (((c : Thread nD τ).loc cc0_stg0_0) ↦{fullShare} Xm m c)
          ∗ (((c : Thread nD τ).loc cc0_stg1_0) ↦{fullShare} OUT (Xm m) (Wmm m) c)) := by
  unfold bodyPost Φ₁ closed wAll
  rw [listed_CK, listed_SK]
  iintro ⟨⟨HO, ⟨Hx, Ho, Hxb, Hgs, I0, I1, Hs, Hs7, Hr, Hm⟩, Zb, Zf, Zcs, Zcr, Zgs, Zgr⟩, Hrem⟩
  ihave H := (whole (Xm m) (Wmm m) c) $$ [Hrem Hxb Hgs I0 I1 Hs Hs7 Hr Hm]
  · isplitl [Hrem]; · iexact Hrem
    isplitl [Hxb]; · iexact Hxb
    isplitl [Hgs]; · iexact Hgs
    isplitl [I0]; · iexact I0
    isplitl [I1]; · iexact I1
    isplitl [Hs]; · iexact Hs
    isplitl [Hs7]; · iexact Hs7
    isplitl [Hr]; · iexact Hr
    iexact Hm
  icases H with ⟨HS, HZ, HW⟩
  isplitl [HS HZ HW Zb Zf Zcs Zcr Zgs Zgr]
  · isplitl [HS]; · iexact HS
    isplitl [HZ Zb Zf Zcs Zcr Zgs Zgr]
    · isplitl [HZ]; · iexact HZ
      isplitl [Zb]; · iexact Zb
      isplitl [Zf]; · iexact Zf
      isplitl [Zcs]; · iexact Zcs
      isplitl [Zcr]; · iexact Zcr
      isplitl [Zgs]; · iexact Zgs
      iexact Zgr
    iexact HW
  isplitl [HO]; · iexact HO
  isplitl [Hx]; · iexact Hx
  iexact Ho

def bodyStart (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyEnd (c : Dev nD) : sProp 𝕄 :=
  iprop(Φ₁ m c ∗ (dats m ρ 0 c).owesAt () t₀.succ ∗ stg c cc0_stg0_0 (Xm m c) ∗ stg c cc0_stg1_0 (OUT (Xm m) (Wmm m) c))

theorem body_run (c : Dev nD) : bodyStart m ρ c ⊢ Wp c (bodyS (F := F)) (fun _ => bodyEnd m ρ c) := by
  unfold bodyStart Φ₀ start Dat.owesAt Pipeline.owesWithin
  rw [show (dats m ρ 0 c).owed t₀.castSucc = owe c pAll from rfl]
  iintro ⟨⟨⟨⟨%K, Hg⟩, Hc, Hlv, HW⟩, HS⟩, ⟨%W, -, HO⟩, ⟨%d, %fx, %hx, Hx⟩, ⟨%d', %fo, -, Ho⟩⟩
  rw [before_x] at hx
  subst hx
  ihave H := (pre_intro m K c) $$ [Hg Hc Hlv HW HS HO Hx Ho]
  · isplitl [Hg]; · iexact Hg
    isplitl [Hc]; · iexact Hc
    isplitl [Hlv]; · iexact Hlv
    isplitl [HW]; · iexact HW
    isplitl [HS]; · iexact HS
    isplitl [HO]; · unfold owing; iexists W; iexact HO
    isplitl [Hx]; · iexact Hx
    iexists fo; iexact Ho
  icases H with ⟨HB, Hrem⟩
  iapply (phase_last (bodyS_spec (Xm m) (Wmm m) K c)) $$ [HB]
  · iexact HB
  iintro HB
  ihave H := (post_elim m c) $$ [HB Hrem]
  · isplitl [HB] <;> iassumption
  icases H with ⟨HΦ, HO, Hx, Ho⟩
  unfold bodyEnd Dat.owesAt Pipeline.owesWithin owing
  rw [show (dats m ρ 0 c).owed t₀.succ = owe c [] from rfl]
  icases HO with ⟨%W', HO⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 100000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyStart m ρ c ⊢ wp frame (wpE defs₀ 𝒱₀ c none) Set.univ
    (cc0_body (Memref.whole cc0_stg0_0) (Memref.isWhole_whole _) (Memref.whole main_arg1) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10 cc0_scoped0) (fun _ => bodyEnd m ρ c)
  rw [cc0_body_eq_skeleton]
  exact (body_run m ρ c).trans (Entails.of_eq (congrArg (fun p : P F PUnit => Wp c p fun _ => bodyEnd m ρ c) body_eq.symm))

/-! ## The ghost state -/

theorem share_eq (c : Dev nD) (w : Fin cfg0.W) : (dats m ρ 0 c).share w = fullShare := by unfold Dat.share; split <;> rfl

/-- The protocol's cells on all devices. -/
def allCells : Finset (GSem nD τ sig) := Finset.univ.map ⟨kcell, kcell_injective⟩

/-- A payment's token, as minted. -/
abbrev tokOf (ca : Dev nD × PK) : GSem nD τ sig × ℕ × Dev nD := (kcell (tokKey ca.1 ca.2), 0, ca.1)
theorem tokOf_injective : Function.Injective (tokOf : Dev nD × PK → GSem nD τ sig × ℕ × Dev nD) := by
  rintro ⟨c, a⟩ ⟨c', a'⟩ h
  have h1 : c = c' := congrArg (fun x : GSem nD τ sig × ℕ × Dev nD => x.2.2) h
  subst h1
  have h2 : tokKey c a = tokKey c a' := kcell_injective (congrArg (fun x : GSem nD τ sig × ℕ × Dev nD => x.1) h)
  rw [tokKey_injective c h2]
def allToks : Finset (GSem nD τ sig × ℕ × Dev nD) := Finset.univ.map ⟨tokOf, tokOf_injective⟩

/-- The launch element: the pipeline's cells, the protocol's, and the counters of the weight transfers. -/
def u₀ : UU := (initOf (Pipeline.cells cfgs cellOf_inj) (Pipeline.launchToks cfgs cellOf_inj), (initOf allCells allToks, (1 : Counters)))

/-- What the launch element deals a device. -/
def G (c : Dev nD) : sProp 𝕄 :=
  iprop((bigSep Finset.univ fun k : CK => roundState ER (Rd (Xm m) (Wmm m)) (kcell (c, k)) 0)
    ∗ (bigSep Finset.univ fun k : CK => iprop(pos c k ∗ reached ER (kcell (c, k)) 0)) ∗ bigSep Finset.univ fun a : PK => tok c a)

/-- What the global step makes of it. -/
def G' (c : Dev nD) : sProp 𝕄 := iprop(∃ K, ghost m K c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun a : PK => tok c a := by
    unfold allToks; rw [bigSep_map, bigSep_univ_prod]; rfl
  iintro HX
  imod (Rounds.fund ER (Rd (Xm m) (Wmm m)) allCells allToks) $$ HX with ⟨Hst, Hr, Hat, Htok⟩
  imodintro
  ihave Hst' := (Entails.of_eq (hX fun g => roundState ER (Rd (Xm m) (Wmm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_all : ownU u₀ ⊢ (|={Set.univ}=> iprop(BI.own (EP (initOf (Pipeline.cells cfgs cellOf_inj) (Pipeline.launchToks cfgs cellOf_inj))) ∗ bigSep Finset.univ (G m)) : sProp 𝕄) := by
  unfold u₀
  iintro Hu
  ihave H := (ownU_pair _ _) $$ Hu
  icases H with ⟨HP, HX⟩
  ihave H := (show BI.own (embR (initOf allCells allToks, (1 : Counters))) ⊢ iprop(BI.own (ER (initOf allCells allToks)) ∗ BI.own (((Emb.inr : Emb Counters (UB × Counters)).trans ((Emb.inr : Emb (UB × Counters) UU).trans (uEmb (nD := nD) (sig := sig) (Ix := Unit) (Val := Elt F) (Name := ℕ) (U := UU) (Lvl := ℕ)).toEmb)) 1)) from
    own_pair_emb ((Emb.inr : Emb (UB × Counters) UU).trans (uEmb (nD := nD) (sig := sig) (Ix := Unit) (Val := Elt F) (Name := ℕ) (U := UU) (Lvl := ℕ)).toEmb)
    (initOf allCells allToks) (1 : Counters)) $$ HX
  icases H with ⟨HX, -⟩
  imod (fund_cells m) $$ HX with HG
  imodintro
  isplitl [HP] <;> iassumption

/-! ## The global step -/

theorem ownSems0_eq (c : Dev nD) : (Pipeline.ownSems0 (Ix := Unit) (Name := ℕ) (U := UU) (Lvl := ℕ) (Val := Elt F) (τ := τ) osem c : sProp 𝕄)
    = iprop(wSems c ∗ bigSep Finset.univ fun k : SK => semVal (kcell (c, some k)) 0) := by
  unfold Pipeline.ownSems0
  rw [BI.bigSep_univ_sum]
  rfl
theorem unscopedSems0_eq (c : Dev nD) : (unscopedSems0 c : sProp 𝕄) = semVal (kcell (c, none)) 0 := by
  unfold unscopedSems0; rw [bigSep_eq_bigSepL_of_eq [SemLoc.reg sBar] (by decide +kernel) (by decide)]; rfl

theorem closed_eq (c : Dev nD) :
    iprop(Pipeline.ownSems0 (Ix := Unit) (Name := ℕ) (U := UU) (Lvl := ℕ) (Val := Elt F) (τ := τ) osem c ∗ unscopedSems0 c) ⊢ (closed c : sProp 𝕄) := by
  rw [ownSems0_eq, unscopedSems0_eq]
  unfold closed
  rw [listed_CK]
  iintro ⟨⟨HW, HS⟩, HB⟩
  isplitl [HW]; · iexact HW
  isplitl [HB] <;> iassumption
theorem closed_elim (c : Dev nD) :
    (closed c : sProp 𝕄) ⊢ iprop(Pipeline.ownSems0 (Ix := Unit) (Name := ℕ) (U := UU) (Lvl := ℕ) (Val := Elt F) (τ := τ) osem c ∗ unscopedSems0 c) := by
  rw [ownSems0_eq, unscopedSems0_eq]
  unfold closed
  rw [listed_CK]
  iintro ⟨HW, HB, HS⟩
  isplitl [HW HS]
  · isplitl [HW] <;> iassumption
  iexact HB

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd (Xm m) (Wmm m)) κ (kcell (c, k))))
          ∗ (bigSep Finset.univ fun k : CK => iprop(pos c k ∗ reached ER (kcell (c, k)) 0)) ∗ (bigSep Finset.univ fun a : PK => tok c a) ∗ wSems c) := by
  unfold G
  iintro ⟨Hos, Hus, Hst, Hat, Htok⟩
  ihave Hv := (closed_eq (F := F) c) $$ [Hos Hus]
  · isplitl [Hos] <;> iassumption
  unfold closed
  icases Hv with ⟨HW, Hv⟩
  imod (show iprop((bigSep Finset.univ fun k : CK => semVal (kcell (c, k)) 0) ∗ bigSep Finset.univ fun k : CK => roundState ER (Rd (Xm m) (Wmm m)) (kcell (c, k)) 0)
      ⊢ (|={Set.univ}=> bigSep Finset.univ fun k => iprop(∃ κ : ℕ, cellInv ER (Rd (Xm m) (Wmm m)) κ (kcell (c, k))) : sProp 𝕄) from by
        rw [← bigSep_sep']
        exact (bigSep_mono fun k _ => (Rounds.body_intro ER (Rd (Xm m) (Wmm m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) :
    iprop(records (Xm m) (Wmm m) K ∗ (bigSep Finset.univ fun k : CK => pos c k) ∗ (bigSep Finset.univ fun a : PK => tok c a) ∗ wSems c) ⊢ G' m c := by
  unfold G' ghost
  iintro H
  iexists K
  iexact H

theorem regroup :
    (bigSep Finset.univ fun c : Dev nD => iprop((bigSep Finset.univ fun k : CK => iprop(∃ κ : ℕ, cellInv ER (Rd (Xm m) (Wmm m)) κ (kcell (c, k))))
          ∗ (bigSep Finset.univ fun k : CK => iprop(pos c k ∗ reached ER (kcell (c, k)) 0)) ∗ (bigSep Finset.univ fun a : PK => tok c a) ∗ wSems c) : sProp 𝕄)
      ⊢ bigSep Finset.univ (G' m) := by
  rw [bigSep_sep', bigSep_sep', ← bigSep_univ_prod (fun ck : Dev nD × CK => iprop(∃ κ : ℕ, cellInv ER (Rd (Xm m) (Wmm m)) κ (kcell ck))),
    bigSep_congr (s := Finset.univ) (fun (c : Dev nD) _ => bigSep_sep' Finset.univ (fun k : CK => (pos c k : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd (Xm m) (Wmm m)) κ (kcell ck) : sProp 𝕄))) $$ HI
  icases HK with ⟨%K, #HI⟩
  iapply (with_persistent (R := records (Xm m) (Wmm m) K)
    (Φ := fun c : Dev nD => iprop((bigSep Finset.univ fun k : CK => pos c k) ∗ (bigSep Finset.univ fun a : PK => tok c a) ∗ wSems c)) fun c _ => ghost_intro m K c)
  isplitr
  · unfold records; isplitl; · iexact HI
    iexact HR
  · rw [bigSep_sep' Finset.univ (fun c : Dev nD => bigSep Finset.univ fun k : CK => (pos c k : sProp 𝕄))]
    isplitl [Hat]; · iexact Hat
    iexact Htok

/-- The global step: every cell's invariant allocated, all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- How many payments all devices owe a cell. -/
def owedTo (ck : Dev nD × CK) : ℕ := ∑ d : Dev nD, pAll.countP fun a => decide (payKey d a = ck)
theorem owed_bar : ∀ c : Dev nD, owedTo (c, none) = 7 := by decide +kernel
theorem owed_fin : ∀ c : Dev nD, owedTo (c, some .fin) = 7 := by decide +kernel
theorem owed_cr : ∀ (c : Dev nD) (p : Fin 7), owedTo (c, some (.cr (peer p c))) = 1 := by decide +kernel
theorem owed_gr : ∀ (c : Dev nD) (p : Fin 7), owedTo (c, some (.gr (peer p c))) = 1 := by decide +kernel

theorem launch_cell (c : Dev nD) (k : CK) :
    tallyOn (kcell (c, k)) (launchCredit (Pipeline.owing O₀) 0 (kcell (c, k))) = (tallyAt (kcell (c, k)) () (owedTo (c, k) * amt k) : CellTallies nD τ sig Unit) := by
  unfold tallyAt; refine congrArg _ (Finsupp.ext fun u => ?_); cases u
  rw [Pipeline.launchCredit_owing, Finsupp.single_eq_same, Finset.sum_congr rfl fun d _ => show O₀ d (kcell (c, k)) () = _ from owe_apply d pAll (c, k), ← Finset.sum_mul]
  rfl

theorem creds (c : Dev nD) : (Pipeline.launchCred O₀ c : sProp 𝕄) ⊢ credits c := by
  unfold Pipeline.launchCred credits
  have H : (bigSep Finset.univ fun sm : SemLoc sig => (cred (tallyOn ((c : Thread nD τ), sm) (launchCredit (Pipeline.owing O₀) 0 ((c : Thread nD τ), sm))) : sProp 𝕄))
      ⊢ bigSep Finset.univ fun k : CK => (crd c k (owedTo (c, k) * amt k) : sProp 𝕄) := by
    refine (BI.bigSep_subset (Finset.subset_univ (Finset.univ.map ⟨csem, csem_injective⟩))).trans ?_
    rw [bigSep_map]
    exact bigSep_mono fun k _ => Entails.of_eq (congrArg cred (launch_cell c k))
  refine H.trans ?_
  rw [listed_CK, listed_SK, owed_bar, owed_fin, own_and_peers c, own_and_peers c]
  iintro ⟨Hb, Hf, -, ⟨-, Hc⟩, -, -, Hg⟩
  isplitl [Hb]; · iexact Hb
  isplitl [Hf]; · iexact Hf
  isplitl [Hc]
  · iapply (bigSepL_mono (l := l7) (Φ := fun p : Fin 7 => (crd c (some (.cr (peer p c))) (owedTo (c, some (.cr (peer p c))) * amt (some (.cr (peer p c)))) : sProp 𝕄)) fun p _ =>
      Entails.of_eq (by rw [owed_cr, Nat.one_mul]; rfl))
    iexact Hc
  iapply (bigSepL_mono (l := l7) (Φ := fun p : Fin 7 => (crd c (some (.gr (peer p c))) (owedTo (c, some (.gr (peer p c))) * amt (some (.gr (peer p c)))) : sProp 𝕄)) fun p _ =>
    Entails.of_eq (by rw [owed_gr, Nat.one_mul]; rfl))
  iexact Hg

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HW, Hlev, Hcr, -, HG⟩
  ihave Hc := (creds (F := F) c) $$ Hcr
  imodintro
  unfold start G'
  isplitl
  · isplitl [HG]; · iexact HG
    isplitl [Hc]; · iexact Hc
    isplitl [Hlev]; · iexact Hlev
    unfold wAll; iexact HW
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop((unscopedSems0 c ∗ wAll m c) ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Hr, HZ, HW⟩
  ihave HZ := (closed_elim (F := F) c) $$ HZ
  icases HZ with ⟨HO, HU⟩
  isplitl [HU HW]
  · isplitl [HU] <;> iassumption
  isplitl [HO] <;> iassumption

/-- A staging semaphore lies below all that is owed. -/
theorem lv_stage (c : Dev nD) (q : DmaSem sig) (h : findK (.dma q) = none) : lv ((c : Thread nD τ), .dma q) () ≤ 0 := by
  show (match kind ((c : Thread nD τ), SemLoc.dma q) with | some k => klv k | none => 0) ≤ 0
  rw [show kind ((c : Thread nD τ), SemLoc.dma q) = none from (if_pos rfl).trans h]
theorem mayWait_stage (c : Dev nD) (q : DmaSem sig) (h : findK (.dma q) = none) (O : CellTallies nD τ sig Unit) (hO : O = O₀ c ∨ O = 0) :
    (levAts L lv : sProp 𝕄) ⊢ MayWait (c : Thread nD τ) (.dma q) () O := by
  rcases hO with rfl | rfl
  · refine mayWait c (.dma q) pAll 0 (lv_stage c q h) fun a _ => ?_
    cases a <;> exact Nat.succ_pos _
  · exact mayWait c (.dma q) [] 0 (lv_stage c q h) fun a ha => absurd ha List.not_mem_nil

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The final state: each window's array at its final contents, the weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 100000 in
/-- For any float values, from any memory with zero counters, every weakly fair execution of the eight devices' programs
    terminates, and every final state has the arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := fund_all m)
    (hglob := glob m)
    (hA := fun _ _ => rfl) (hpf := fun _ k => k.elim0)
    (X := start m) (Y := fun c => iprop(unscopedSems0 c ∗ wAll m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, HW⟩, -, HSI⟩
      unfold wAll
      ihave H := (pointsTo_read_all ({()} : Finset Unit) (fun _ => (c : Thread nD τ).loc main_arg1) (fun _ => Wmm m c) s') $$ [HW HSI]
      · isplitl [HW]
        · rw [bigSep_singleton]; iexact HW
        · iexact HSI
      icases H with ⟨%hm, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, hm () (Finset.mem_singleton_self _)⟩
      · iexact HSI)
    (hQ := fun _ h hs => ⟨fun c => ⟨fun w => (h c).1 w, (h c).2.2.2⟩, sem_eq_zero hs fun c => (h c).2.2.1⟩)

theorem finalA_x (c : Dev nD) : finalA m ρ c (0 : Fin 2) = m ((c : Thread nD τ).loc main_arg0) :=
  (dats (F := F) m ρ 0 c).arrAt_in (0 : Fin 2) rfl _

/-- The result array ends at the device's output. -/
theorem finalA_o (c : Dev nD) : finalA m ρ c (1 : Fin 2) = OUT (Xm m) (Wmm m) c := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  have ho : (win0_1.blk (0 : Fin 1)).view.read (Elt F) (finalA m ρ c (1 : Fin 2)) = OUT (Xm m) (Wmm m) c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (hr _).symm.trans ho

/-- The run, read at the buffers. -/
theorem run_values : θ_run defs (onTc (τ := τ) (main (F := F))) (s₀ m ρ) (fun r =>
    (∀ c : Dev nD, r.2.mem ((c : Thread nD τ).loc main_v1) = OUT (Xm m) (Wmm m) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run _ _ _).mono (fun _ h => ⟨fun c => ⟨((h.1 c).1 (1 : Fin 2)).trans (finalA_o m ρ c), ((h.1 c).1 (0 : Fin 2)).trans (finalA_x m ρ c), (h.1 c).2⟩, h.2⟩)
    (run_main m ρ)

end Data

end Cert.KernelIdeal.Run

end
-- ==== Proof.Frames.lean ====
/- The frames: the run, with the values dropped. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

/-- The idealized kernel terminates, leaves its arguments as they were and every counter at zero. -/
theorem frame_ideal : Cert.quiescent_KernelIdeal := fun m ρ _ =>
  (θ_run Cert.KernelIdeal.defs _ _).mono (fun _ h => ⟨fun c => (h.1 c).2, h.2⟩) (Cert.KernelIdeal.Run.run_values (F := Ideal) m ρ)

set_option maxRecDepth 100000 in
theorem same_bodies : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl
  | ⟨_ + 1, h⟩, _ => exact absurd h (Nat.not_lt.2 (Nat.le_add_left _ _))
/-- The two programs have the same text. -/
theorem same_defs : Cert.Kernel.defs (F := Bits) = Cert.KernelIdeal.defs (F := Bits) := by
  unfold Cert.Kernel.defs Cert.KernelIdeal.defs
  rw [same_bodies]
  rfl

/-- The kernel, at the machine's floats, likewise: its text is the same. -/
theorem frame_kernel : Cert.quiescent_Kernel := fun m ρ _ => by
  rw [same_defs]
  exact (θ_run (Cert.KernelIdeal.defs (F := Bits)) (onTc (τ := Cert.KernelIdeal.τ) (Cert.KernelIdeal.main (F := Bits))) ⟨m, fun _ => 0, ρ⟩).mono
    (fun _ h => ⟨fun c => (h.1 c).2, h.2⟩) (Cert.KernelIdeal.Run.run_values (F := Bits) m ρ)

/-- The reference terminates and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Quant.lean ====
/- The quantiser over the extended reals, one entry at a time: the kernel's codes and final rounding against the
   reference's. -/
module

public import Idealize.ShloMosaic.PureOps.Ideal
public import Mathlib.Tactic.NormNum
public import Mathlib.Tactic.Linarith
public import Mathlib.Tactic.FieldSimp

@[expose] public section

noncomputable section

namespace Cert.KernelIdeal.Run

open Idealize.ShloMosaic

/-- Rounding to the nearest integer, ties to even. -/
abbrev rnd : EReal → EReal := Ideal.liftRound Ideal.roundHalfEven

/-! ## The constants -/

/-- One over the step of the wire. -/
abbrev cInv : EReal := Ideal.ofBits .f32 0x447FFE00#32
/-- The step of the wire. -/
abbrev cStep : EReal := Ideal.ofBits .f32 0x3A800100#32
/-- The floor of the divisor. -/
abbrev cTiny : EReal := Ideal.ofBits .f32 0x0DA24260#32

theorem bits_127 : Ideal.ofBits .f32 0x42FE0000#32 = ((127 : ℝ) : EReal) := by
  simp [Ideal.ofBits, Ideal.ieee]; norm_num; rw [← EReal.coe_mul]; norm_num
theorem bits_n127 : Ideal.ofBits .f32 0xC2FE0000#32 = ((-127 : ℝ) : EReal) := by
  simp [Ideal.ofBits, Ideal.ieee]; norm_num; rw [← EReal.coe_mul]; norm_num
theorem bits_32767 : Ideal.ofBits .f32 0x46FFFE00#32 = ((32767 : ℝ) : EReal) := by
  simp [Ideal.ofBits, Ideal.ieee]; norm_num; rw [← EReal.coe_mul]; norm_num
theorem bits_n32768 : Ideal.ofBits .f32 0xC7000000#32 = ((-32768 : ℝ) : EReal) := by
  simp [Ideal.ofBits, Ideal.ieee]; norm_num; rw [← EReal.coe_mul]; norm_num
theorem bits_cInv : cInv = ((1023.96875 : ℝ) : EReal) := by
  simp [cInv, Ideal.ofBits, Ideal.ieee]; norm_num; rw [← EReal.coe_mul]; norm_num
theorem bits_cStep : ∃ s : ℝ, 0 ≤ s ∧ cStep = (s : EReal) := by
  refine ⟨(8388864 : ℝ) * 2 ^ (-33 : ℤ), by positivity, ?_⟩
  simp [cStep, Ideal.ofBits, Ideal.ieee]
theorem bits_cTiny : ∃ e : ℝ, 0 < e ∧ e < 1 / 1000000 ∧ cTiny = (e : EReal) := by
  refine ⟨(10633824 : ℝ) * 2 ^ (-123 : ℤ), by positivity, by norm_num, ?_⟩
  simp [cTiny, Ideal.ofBits, Ideal.ieee]

theorem ecoe_max (a b : ℝ) : ((max a b : ℝ) : EReal) = max (a : EReal) (b : EReal) := EReal.coe_strictMono.monotone.map_max
theorem ecoe_min (a b : ℝ) : ((min a b : ℝ) : EReal) = min (a : EReal) (b : EReal) := EReal.coe_strictMono.monotone.map_min

/-! ## Rounding -/

theorem round_nonneg {r : ℝ} (h : 0 ≤ r) : 0 ≤ Ideal.roundHalfEven r := by
  have hf : 0 ≤ ⌊r⌋ := Int.floor_nonneg.2 h
  unfold Ideal.roundHalfEven
  dsimp only
  split_ifs <;> omega

theorem round_small {r : ℝ} (h : 0 ≤ r) (h' : r < 1 / 2) : Ideal.roundHalfEven r = 0 := by
  have hf : ⌊r⌋ = 0 := Int.floor_eq_iff.2 ⟨by simpa using h, by norm_num; linarith⟩
  unfold Ideal.roundHalfEven
  dsimp only
  rw [hf, if_pos (by simpa using h')]

theorem rnd_coe (r : ℝ) : rnd (r : EReal) = ((Ideal.roundHalfEven r : ℝ) : EReal) := rfl

theorem rnd_zero : rnd ((0 : ℝ) : EReal) = ((0 : ℝ) : EReal) := by
  rw [rnd_coe, round_small le_rfl (by norm_num)]; norm_num

/-- The sixteen-bit code of a rounded value: the value, kept between the ends of the format. -/
theorem code_eq (z : ℤ) : ((Ideal.fptosi 16 (((z : ℝ)) : EReal)).toInt : ℝ) = min 32767 (max (-32768) (z : ℝ)) := by
  have h : Ideal.toIntClamped (-(2 ^ (16 - 1) : Nat)) ((2 ^ (16 - 1) : Nat) - 1) ((z : ℝ) : EReal) = max (-32768) (min 32767 z) := by
    rw [Ideal.toIntClamped_coe]; simp
  rw [Ideal.fptosi, h, BitVec.toInt_ofInt, Int.bmod_eq_of_le (by norm_num) (by norm_num)]
  push_cast
  rw [max_min_distrib_left, max_eq_right (by norm_num : (-32768 : ℝ) ≤ 32767), min_comm]

theorem code_top : ((Ideal.fptosi 16 ⊤).toInt : ℝ) = 32767 := by
  rw [show (Ideal.fptosi 16 ⊤).toInt = 32767 from by rw [show Ideal.fptosi 16 ⊤ = 32767#16 from rfl]; decide]; norm_num

/-- The wire's value at a nonnegative entry: a nonnegative real, the same however the code is held; zero at an entry
    below half a step. -/
theorem wire_eq {y : EReal} (hy : 0 ≤ y) :
    ∃ w : ℝ, 0 ≤ w ∧ (((Ideal.fptosi 16 (rnd (y * cInv))).toInt : ℝ) : EReal) = (w : EReal)
      ∧ min ((32767 : ℝ) : EReal) (max ((-32768 : ℝ) : EReal) (rnd (y * cInv))) = (w : EReal)
      ∧ (y < ((1 / 1000000 : ℝ) : EReal) → w = 0) := by
  induction y with
  | bot => exact absurd hy (by simp)
  | top =>
    rw [bits_cInv, EReal.top_mul_coe_of_pos (by norm_num)]
    refine ⟨32767, by norm_num, by rw [show rnd ⊤ = ⊤ from rfl, code_top], ?_, fun h => absurd h (by simp)⟩
    rw [show rnd ⊤ = ⊤ from rfl]; simp
  | coe y =>
    have hy' : (0 : ℝ) ≤ y := by exact_mod_cast hy
    rw [bits_cInv, ← EReal.coe_mul, rnd_coe, code_eq]
    have hz := round_nonneg (r := y * 1023.96875) (by positivity)
    have hz' : (0 : ℝ) ≤ (Ideal.roundHalfEven (y * 1023.96875) : ℝ) := by exact_mod_cast hz
    refine ⟨_, ?_, rfl, ?_, fun h => ?_⟩
    · exact le_min (by norm_num) (le_max_of_le_right hz')
    · rw [← ecoe_max, ← ecoe_min]
    · have h' : y < 1 / 1000000 := by exact_mod_cast h
      rw [round_small (by positivity) (by linarith)]
      norm_num

/-- The last rounding: dividing by the scale is multiplying by its inverse, and no entry is negative. -/
theorem quant_eq {y g : EReal} (hy : 0 ≤ y) (hg : y ≤ g) :
    min ((127 : ℝ) : EReal) (max 0 (rnd (((((Ideal.fptosi 16 (rnd (y * cInv))).toInt : ℝ) : EReal) * cStep) * Ideal.div ((127 : ℝ) : EReal) (max g cTiny))))
        * Ideal.div g ((127 : ℝ) : EReal)
      = min ((127 : ℝ) : EReal) (max ((-127 : ℝ) : EReal)
          (rnd (Ideal.div (min ((32767 : ℝ) : EReal) (max ((-32768 : ℝ) : EReal) (rnd (y * cInv))) * cStep) (Ideal.div g ((127 : ℝ) : EReal)))))
        * Ideal.div g ((127 : ℝ) : EReal) := by
  obtain ⟨w, hw, h1, h2, h3⟩ := wire_eq hy
  obtain ⟨s, hs, hs'⟩ := bits_cStep
  obtain ⟨e, he, he', he''⟩ := bits_cTiny
  rw [h1, h2, hs', he'', ← EReal.coe_mul]
  have h127 : ((127 : ℝ) : EReal) ≠ 0 := by norm_cast
  have hd : ∀ x : EReal, Ideal.div x ((127 : ℝ) : EReal) = x * (((127 : ℝ)⁻¹ : ℝ) : EReal) := fun x => by
    rw [Ideal.div, if_neg h127, EReal.coe_inv]
  -- the rounded value is the same nonnegative number on both sides
  have key : ∀ r : ℝ, 0 ≤ r → max 0 (rnd (r : EReal)) = max ((-127 : ℝ) : EReal) (rnd (r : EReal)) := fun r hr => by
    have hz : (0 : ℝ) ≤ (Ideal.roundHalfEven r : ℝ) := by exact_mod_cast round_nonneg hr
    rw [rnd_coe, max_eq_right (by exact_mod_cast hz), max_eq_right (by rw [EReal.coe_le_coe_iff]; linarith)]
  induction g with
  | bot => exact absurd (hy.trans hg) (by simp)
  | top =>
    rw [hd, EReal.top_mul_coe_of_pos (by norm_num), max_eq_left le_top]
    have e1 : Ideal.div ((127 : ℝ) : EReal) ⊤ = ((0 : ℝ) : EReal) := by rw [Ideal.div, if_neg (by simp)]; simp
    have e2 : Ideal.div ((w * s : ℝ) : EReal) ⊤ = ((0 : ℝ) : EReal) := by rw [Ideal.div, if_neg (by simp)]; simp
    rw [e1, e2, ← EReal.coe_mul, mul_zero, key 0 le_rfl]
  | coe g =>
    have hg0 : (0 : ℝ) ≤ g := by exact_mod_cast hy.trans hg
    rw [hd, ← EReal.coe_mul, ← ecoe_max]
    rcases hg0.eq_or_lt with h0 | hpos
    · subst h0; simp
    · congr 2
      have hm : (0 : ℝ) < max g e := lt_max_of_lt_left hpos
      have ne1 : ((max g e : ℝ) : EReal) ≠ 0 := by exact_mod_cast hm.ne'
      have hq : (0 : ℝ) < g * 127⁻¹ := by positivity
      have ne2 : ((g * 127⁻¹ : ℝ) : EReal) ≠ 0 := by exact_mod_cast hq.ne'
      rw [Ideal.div, if_neg ne1, Ideal.div, if_neg ne2, ← EReal.coe_inv, ← EReal.coe_inv, ← EReal.coe_mul, ← EReal.coe_mul, ← EReal.coe_mul]
      have same : w * s * (127 * (max g e)⁻¹) = w * s * (g * 127⁻¹)⁻¹ := by
        rcases lt_or_ge g e with hlt | hge
        · rw [h3 (lt_of_le_of_lt hg (by rw [EReal.coe_lt_coe_iff]; linarith))]; ring
        · rw [max_eq_left hge]; field_simp
      rw [same]
      exact key _ (by positivity)

end Cert.KernelIdeal.Run

end
-- ==== Proof.Values.lean ====
/- What the kernel computes over the extended reals, entry by entry. `A` is the whole `x` (4096 × 4096), `B` the weights;
   device `s` holds rows `512 s …` of `A`, and all of `B`. -/
module

public import proofs.«01_k».proof.Proof.Contents
public import proofs.«01_k».proof.Proof.Quant
public import Idealize.ShloMosaic.Lib.MatmulPlain
public import Idealize.ShloMosaic.PureOps.Reduce
public import Idealize.ShloMosaic.PureOps.Ideal.Laws

@[expose] public section

noncomputable section

namespace Cert.KernelIdeal.Run

open Cert.KernelIdeal Cert.KernelIdeal.Gen
open Idealize.ShloMosaic Idealize.ShloMosaic.TcCoe
open Idealize.ShloMosaic.ValueIdx
open scoped BigOperators

/-- Entry `(r, q)` of the product, negatives cut to zero. -/
def yv (A : (⟨2, ![4096, 4096]⟩ : Shape).Idx → EReal) (B : (⟨2, ![4096, 8192]⟩ : Shape).Idx → EReal) (r : Fin 4096) (q : Fin 8192) : EReal :=
  max (∑ k : Fin 4096, A (ix2 r k) * B (ix2 k q)) 0

theorem yv_nonneg (A B r q) : 0 ≤ yv A B r q := le_max_right _ _

/-- The greatest entry. -/
def gmax (A : (⟨2, ![4096, 4096]⟩ : Shape).Idx → EReal) (B : (⟨2, ![4096, 8192]⟩ : Shape).Idx → EReal) : EReal :=
  ⨆ (r : Fin 4096) (q : Fin 8192), yv A B r q

theorem gmax_le (A B) (b : EReal) : gmax A B ≤ b ↔ ∀ r q, yv A B r q ≤ b := by
  unfold gmax
  simp only [iSup_le_iff]

theorem yv_le_gmax (A B r q) : yv A B r q ≤ gmax A B := (gmax_le A B _).1 le_rfl r q

/-! ## The payloads at an entry -/

theorem pay1_apply (x : Vec Ideal S512x4096 .f32) : (k0_pay1 x : FVec Ideal S512x4096 .bf16) = x := by
  unfold k0_pay1
  funext i
  simp only [shapeCast_self]
  rfl

theorem pay3_apply (x : Vec Ideal S512x4096 .bf16) (w : Vec Ideal S1x4096x512 .f32) (r : Fin 512) (q : Fin 512) :
    (k0_pay3 x w : FVec Ideal S512x512 .f32) (ix2 r q) = max (∑ k : Fin 4096, x (ix2 r k) * w (ix3 0 k q)) 0 := by
  unfold k0_pay3
  show max (FloatOps.matmul (DotDims.plain 512 4096 512) none x _ _ (ix2 r q)) (Ideal.ofBits .f32 0x00000000#32) = _
  rw [Ideal.matmul_plain_apply, Ideal.ofBits_zero_f32]
  congr 1
  show Ideal.ofBits .f32 0x00000000#32 + _ = _
  rw [Ideal.ofBits_zero_f32, zero_add]
  refine Finset.sum_congr rfl fun k _ => ?_
  congr 1
  show shapeCast S4096x512 w shapeCasts_S1x4096x512_S4096x512 (ix2 k q) = _
  exact shapeCast_1ab_ab_apply w _ k q

theorem reduce_le {s : Shape} {a : List (Fin s.rank)} (y : FVec Ideal s .f32) (h : s.Reduces a S1) (hφ hacc) (j : S1.Idx) (b : EReal) :
    (multiReduction .maximumf a S1 y 0xFF800000#32 h hφ hacc : FVec Ideal S1 .f32) j ≤ b ↔ ∀ i, y i ≤ b := by
  rw [multiReduction_maximumf_eq_fold]
  have hs : ∀ i j : S1.Idx, i = j := fun i j => funext fun a => match a with
    | ⟨0, _⟩ => Subsingleton.elim (α := Fin 1) _ _
  rw [show (Finset.univ.filter fun i => h.drop i = j) = Finset.univ from Finset.filter_true_of_mem fun i _ => hs _ _]
  refine (Finset.fold_max_le (f := y) (b := Ideal.ofBits .f32 0xFF800000#32) (s := Finset.univ) b).trans ?_
  have hb : Ideal.ofBits .f32 0xFF800000#32 = ⊥ := by simp [Ideal.ofBits, Ideal.ieee]
  rw [hb]
  simp

theorem pay2_apply (i : S1x128.Idx) : (k0_pay2 : FVec Ideal S1x128 .f32) i = 0 := by
  unfold k0_pay2
  rw [shapeCast_self]
  exact Ideal.ofBits_zero_f32

/-- The greatest entry of a block, as the kernel takes it. -/
def topOf (y : FVec Ideal S512x512 .f32) : FVec Ideal S1 .f32 :=
  multiReduction .maximumf [1, 2] S1 (shapeCast S1x512x512 y shapeCasts_S512x512_S1x512x512) 0xFF800000#32 reduces_S1x512x512_S1 (.inl rfl) rfl

theorem topOf_le (y : FVec Ideal S512x512 .f32) (j : S1.Idx) (b : EReal) : topOf y j ≤ b ↔ ∀ r q, y (ix2 r q) ≤ b := by
  unfold topOf
  refine (reduce_le _ _ (.inl rfl) rfl _ b).trans ⟨fun h r q => ?_, fun h j => ?_⟩
  · rw [← shapeCast_ab_1ab_apply y shapeCasts_S512x512_S1x512x512 0 r q]; exact h _
  · obtain ⟨u, r, q, rfl⟩ : ∃ (u : Fin 1) (r : Fin 512) (q : Fin 512), j = ix3 u r q := ⟨j 0, j 1, j 2, eq_ix3 j⟩
    rw [shapeCast_ab_1ab_apply]; exact h _ _

theorem pay4_top (y : FVec Ideal S512x512 .f32) (g : Vec Ideal S1x128 .f32) :
    (k0_pay4 y g : FVec Ideal S1x128 .f32) = maximumf g (broadcast S1x128 (extractAt ![0, 0, 0] (shapeCast S1x1x1 (topOf y) shapeCasts_S1_S1x1x1) inpos_S1x1x1_p0_0_0)) := by
  unfold k0_pay4 topOf
  exact shapeCast_self _ _

theorem pay4_le (y : FVec Ideal S512x512 .f32) (g : Vec Ideal S1x128 .f32) (i : S1x128.Idx) (b : EReal) :
    (k0_pay4 y g : FVec Ideal S1x128 .f32) i ≤ b ↔ g i ≤ b ∧ ∀ r q, y (ix2 r q) ≤ b := by
  rw [pay4_top]
  have h : ∀ M : FVec Ideal S1 .f32, (maximumf g (broadcast S1x128 (extractAt ![0, 0, 0] (shapeCast S1x1x1 M shapeCasts_S1_S1x1x1) inpos_S1x1x1_p0_0_0)) : FVec Ideal S1x128 .f32) i
      = max (g i) (M (Shape.reshapeEquiv shapeCasts_S1_S1x1x1 fun a => ⟨(![0, 0, 0] : Fin 3 → ℕ) a, inpos_S1x1x1_p0_0_0 a⟩)) := fun M => rfl
  rw [h, max_le_iff, topOf_le]

theorem pay58_le (gm : Vec Ideal S8x128 .f32) (b : EReal) :
    (k0_pay58 gm : EReal) ≤ b ↔ ∀ s q, gm (ix2 s q) ≤ b := by
  unfold k0_pay58
  refine (reduce_le _ _ (.inl rfl) rfl _ b).trans ⟨fun h r q => ?_, fun h j => ?_⟩
  · rw [← shapeCast_ab_1ab_apply gm shapeCasts_S8x128_S1x8x128 0 r q]; exact h _
  · obtain ⟨u, r, q, rfl⟩ : ∃ (u : Fin 1) (r : Fin 8) (q : Fin 128), j = ix3 u r q := ⟨j 0, j 1, j 2, eq_ix3 j⟩
    rw [shapeCast_ab_1ab_apply]; exact h _ _

theorem pay5_apply (y : FVec Ideal S512x512 .f32) (r q : Fin 512) :
    (k0_pay5 y : IVec S1x512x512 16) (ix3 0 r q) = Ideal.fptosi 16 (rnd (y (ix2 r q) * cInv)) := by
  unfold k0_pay5
  exact shapeCast_ab_1ab_apply _ _ 0 r q

theorem pay61_apply (gm : Vec Ideal S8x128 .f32) (q : Vec Ideal S1x512x1024 .i16) (a : Fin 512) (b : Fin 1024) :
    (k0_pay61 gm q : FVec Ideal S512x1024 .f32) (ix2 a b)
      = min ((127 : ℝ) : EReal) (max 0 (rnd (((((q (ix3 0 a b)).toInt : ℝ) : EReal) * cStep) * Ideal.div ((127 : ℝ) : EReal) (max (k0_pay58 gm : EReal) cTiny))))
        * Ideal.div (k0_pay58 gm : EReal) ((127 : ℝ) : EReal) := by
  have hc := shapeCast_1ab_ab_apply q shapeCasts_S1x512x1024_S512x1024 a b
  rw [← hc, ← bits_127, ← Ideal.ofBits_zero_f32]
  unfold k0_pay61 k0_pay60 k0_pay59
  dsimp only [mulf, minimumf, maximumf, roundeven, sitofp, broadcast]
  generalize (k0_pay58 gm : EReal) = g
  generalize shapeCast S512x1024 q shapeCasts_S1x512x1024_S512x1024 = z
  rfl

/-! ## The buffers at an entry -/

section

variable (A : (⟨2, ![4096, 4096]⟩ : Shape).Idx → EReal) (B : (⟨2, ![4096, 8192]⟩ : Shape).Idx → EReal)
  (X : Dev nD → Vec Ideal S512x4096 .f32) (Wm : Dev nD → Vec Ideal S4096x8192 .f32)

set_option backward.proofsInPublic true in
/-- Row `r` of device `s`, among all rows. -/
def rowOf (s : Dev nD) (r : Fin 512) : Fin 4096 := ⟨s.val * 512 + r.val, by have := s.isLt; have := r.isLt; simp only [nD] at *; omega⟩

set_option backward.proofsInPublic true in
/-- Column `q` of block `(t, h)` of device `s`, among all columns. -/
def colAt (s : Dev nD) (t : Fin 8) (h : Fin 2) (q : Fin 512) : Fin 8192 := ⟨colOf s t h + q.val, by have := colOf_le s t h; have := q.isLt; omega⟩

variable (hX : ∀ (s : Dev nD) (r : Fin 512) (k : Fin 4096), X s (ix2 r k) = A (ix2 (rowOf s r) k)) (hW : ∀ s, Wm s = B)

include hX hW

theorem yb_apply (s : Dev nD) (t : Fin 8) (h : Fin 2) (r q : Fin 512) :
    yb X Wm s t h (ix2 r q) = yv A B (rowOf s r) (colAt s t h q) := by
  unfold yb yv
  rw [pay3_apply, pay1_apply]
  congr 1
  refine Finset.sum_congr rfl fun k _ => ?_
  rw [hX]
  congr 1
  unfold wcont
  rw [hW]
  rfl

theorem gsAt_le (s : Dev nD) (n : ℕ) (i : S1x128.Idx) (b : EReal) :
    gsAt X Wm s n i ≤ b ↔ 0 ≤ b ∧ ∀ k < n, ∀ r q : Fin 512,
      yv A B (rowOf s r) (colAt s ⟨k / 2 % 8, Nat.mod_lt _ (by decide)⟩ ⟨k % 2, Nat.mod_lt _ (by decide)⟩ q) ≤ b := by
  induction n with
  | zero =>
    show (k0_pay2 : FVec Ideal S1x128 .f32) i ≤ b ↔ _
    rw [pay2_apply]
    simp
  | succ n ih =>
    show (k0_pay4 (yb X Wm s ⟨n / 2 % 8, _⟩ ⟨n % 2, _⟩) (gsAt X Wm s n) : FVec Ideal S1x128 .f32) i ≤ b ↔ _
    rw [pay4_le, ih]
    simp only [yb_apply A B X Wm hX hW]
    constructor
    · rintro ⟨⟨h0, h1⟩, h2⟩
      refine ⟨h0, fun k hk => ?_⟩
      rcases Nat.lt_succ_iff_lt_or_eq.1 hk with hk | rfl
      · exact h1 k hk
      · exact h2
    · rintro ⟨h0, h1⟩
      exact ⟨⟨h0, fun k hk => h1 k (Nat.lt_succ_of_lt hk)⟩, h1 n (Nat.lt_succ_self n)⟩

/-- Every device ends with the greatest entry of the whole product. -/
theorem top_eq : (k0_pay58 (GM X Wm) : EReal) = gmax A B := by
  refine eq_of_forall_ge_iff fun b => ?_
  rw [pay58_le, gmax_le]
  have hg : ∀ (s : Fin 8) (q : Fin 128), GM X Wm (ix2 s q) = gsAt X Wm s 16 (ix2 0 q) := fun s q => rfl
  simp only [hg, gsAt_le A B X Wm hX hW]
  constructor
  · intro H R Q
    have hR := R.isLt
    have hQ := Q.isLt
    have h := (H ⟨R.val / 512, by omega⟩ 0).2 (2 * ((Q.val / 1024 + 7 - R.val / 512) % 8) + Q.val % 1024 / 512) (by omega)
      ⟨R.val % 512, by omega⟩ ⟨Q.val % 512, by omega⟩
    refine le_of_eq_of_le ?_ h
    congr 1
    · apply Fin.ext; simp only [rowOf]; omega
    · apply Fin.ext; simp only [colAt, colOf]; omega
  · intro H s q
    exact ⟨(yv_nonneg A B 0 0).trans (H 0 0), fun k _ r q => H _ _⟩

/-- The output of device `c`: the wire value of the entry, rounded to a multiple of the scale. -/
theorem OUT_apply (c : Dev nD) (R : Fin 4096) (Q : Fin 1024) (Q' : Fin 8192) (hQ : Q'.val = c.val * 1024 + Q.val) :
    OUT X Wm c (ix2 R Q)
      = min ((127 : ℝ) : EReal) (max ((-127 : ℝ) : EReal)
          (rnd (Ideal.div (min ((32767 : ℝ) : EReal) (max ((-32768 : ℝ) : EReal) (rnd (yv A B R Q' * cInv))) * cStep) (Ideal.div (gmax A B) ((127 : ℝ) : EReal)))))
        * Ideal.div (gmax A B) ((127 : ℝ) : EReal) := by
  have hR := R.isLt
  have hQ1 := Q.isLt
  have hc : c.val < 8 := c.isLt
  rw [← quant_eq (yv_nonneg A B R Q') (yv_le_gmax A B R Q'), ← top_eq A B X Wm hX hW]
  let s : Dev nD := ⟨R.val / 512, by simp only [nD]; omega⟩
  let r : Fin 512 := ⟨R.val % 512, by omega⟩
  have hcode : rqBlk X Wm c s (ix3 0 r Q) = Ideal.fptosi 16 (rnd (yv A B R Q' * cInv)) := by
    show (k0_pay5 (yb X Wm s (stepOf s c) ⟨Q.val / 512, _⟩) : IVec S1x512x512 16) (ix3 0 r ⟨Q.val % 512, _⟩) = _
    rw [pay5_apply, yb_apply A B X Wm hX hW]
    have e1 : rowOf s r = R := by apply Fin.ext; simp only [rowOf, s, r]; omega
    have e2 : colAt s (stepOf s c) ⟨Q.val / 512, by omega⟩ ⟨Q.val % 512, by omega⟩ = Q' := by
      apply Fin.ext; simp only [colAt, colOf, stepOf, s]; omega
    rw [e1, e2]
  rw [← hcode]
  exact pay61_apply (GM X Wm) (rqBlk X Wm c s) r Q

end

end Cert.KernelIdeal.Run

end
-- ==== Proof.Algebra.lean ====
/- The reference over the extended reals, entry by entry, and the value claim: the kernel computes the reference. -/
module

public import proofs.«01_k».proof.Defs
public import proofs.«01_k».proof.Proof.Launch
public import proofs.«01_k».proof.Proof.Values
public import proofs.«01_k».proof.Proof.Gen.ReferenceIdeal.Run
public import Idealize.ShloMosaic.Lib.StackMember
public import Idealize.ShloMosaic.Lib.IdealHost

@[expose] public section

noncomputable section

namespace Cert.Proof

open Idealize.ShloMosaic Idealize.SL.Sem Idealize.ShloMosaic.TcCoe
open Idealize.ShloMosaic.ValueIdx
open Cert.ReferenceIdeal Cert.ReferenceIdeal.Gen
open Cert.KernelIdeal.Run (yv gmax yv_nonneg gmax_le rnd cInv cStep)
open scoped BigOperators

variable (A : FVec Ideal S4096x4096 .f32) (B : FVec Ideal S4096x8192 .f32)

/-- The product, negatives cut to zero. -/
def refY : FVec Ideal S4096x8192 .f32 :=
  maximumf (Host.dotGeneral dot_S4096x4096_S4096x8192_S4096x8192_1_0_0_1_n_n none A B) (broadcastInDim S4096x8192 ![] bcast_S_S4096x8192 (constant S_ .f32 0x00000000#32))
/-- The greatest entry's absolute value. -/
def refG : FVec Ideal S_ .f32 :=
  Host.reduce FloatOps.maximumf (Host.absf (refY A B)) (constant S_ .f32 0xFF800000#32) reducesTo_S4096x8192_S_d0_1 h_S_
/-- The scale. -/
def refScale : FVec Ideal S_ .f32 := Host.divf (refG A B) (constant S_ .f32 0x42FE0000#32)
/-- What crosses the wire. -/
def refWire : FVec Ideal S4096x8192 .f32 :=
  mulf (minimumf (broadcastInDim S4096x8192 ![] bcast_S_S4096x8192 (id (constant S_ .f32 0x46FFFE00#32))) (maximumf (broadcastInDim S4096x8192 ![] bcast_S_S4096x8192 (id (constant S_ .f32 0xC7000000#32))) (Host.roundeven (mulf (refY A B) (broadcastInDim S4096x8192 ![] bcast_S_S4096x8192 (constant S_ .f32 0x447FFE00#32)))))) (broadcastInDim S4096x8192 ![] bcast_S_S4096x8192 (constant S_ .f32 0x3A800100#32))
/-- The reference's result. -/
def refOut : FVec Ideal S4096x8192 .f32 :=
  mulf (minimumf (broadcastInDim S4096x8192 ![] bcast_S_S4096x8192 (id (constant S_ .f32 0x42FE0000#32))) (maximumf (broadcastInDim S4096x8192 ![] bcast_S_S4096x8192 (id (constant S_ .f32 0xC2FE0000#32))) (Host.roundeven (Host.divf (refWire A B) (broadcastInDim S4096x8192 ![] bcast_S_S4096x8192 (refScale A B)))))) (broadcastInDim S4096x8192 ![] bcast_S_S4096x8192 (refScale A B))

theorem refY_apply (r : Fin 4096) (q : Fin 8192) : refY A B (ix2 r q) = yv A B r q := by
  have h := StackMember.dotGeneral_plain_apply (m := 4096) (k := 4096) (n := 8192) none A B r q
  unfold refY yv
  rw [← h, ← Ideal.ofBits_zero_f32]
  rfl

theorem refG_eq (j : S_.Idx) : refG A B j = gmax A B := by
  refine eq_of_forall_ge_iff fun b => ?_
  unfold refG
  rw [Host.reduce_eq_fold, gmax_le]
  rw [show (Finset.univ.filter fun i => reducesTo_S4096x8192_S_d0_1.drop i = j) = Finset.univ from
    Finset.filter_true_of_mem fun i _ => funext fun a => a.elim0]
  refine (Finset.fold_max_le (f := Host.absf (refY A B)) (b := Ideal.ofBits .f32 0xFF800000#32) (s := Finset.univ) b).trans ?_
  have hb : Ideal.ofBits .f32 0xFF800000#32 = ⊥ := by simp [Ideal.ofBits, Ideal.ieee]
  rw [hb]
  have ha : ∀ (r : Fin 4096) (q : Fin 8192), (Host.absf (refY A B) : FVec Ideal S4096x8192 .f32) (ix2 r q) = yv A B r q := fun r q => by
    show max (refY A B (ix2 r q)) (-(refY A B (ix2 r q))) = _
    rw [refY_apply]
    exact max_eq_left (le_trans (by simpa using EReal.neg_le_neg_iff.2 (yv_nonneg A B r q)) (yv_nonneg A B r q))
  constructor
  · rintro ⟨-, h⟩ r q
    rw [← ha]; exact h _ (Finset.mem_univ _)
  · intro h
    refine ⟨bot_le, fun i _ => ?_⟩
    obtain ⟨r, q, rfl⟩ : ∃ (r : Fin 4096) (q : Fin 8192), i = ix2 r q := ⟨i 0, i 1, eq_ix2 i⟩
    rw [ha]; exact h r q

theorem refOut_apply (r : Fin 4096) (q : Fin 8192) :
    refOut A B (ix2 r q) = min ((127 : ℝ) : EReal) (max ((-127 : ℝ) : EReal)
          (rnd (Ideal.div (min ((32767 : ℝ) : EReal) (max ((-32768 : ℝ) : EReal) (rnd (yv A B r q * cInv))) * cStep) (Ideal.div (gmax A B) ((127 : ℝ) : EReal)))))
        * Ideal.div (gmax A B) ((127 : ℝ) : EReal) := by
  rw [← refY_apply, ← refG_eq A B ix0, ← Cert.KernelIdeal.Run.bits_127, ← Cert.KernelIdeal.Run.bits_n127, ← Cert.KernelIdeal.Run.bits_32767, ← Cert.KernelIdeal.Run.bits_n32768]
  unfold refOut refWire refScale
  generalize refY A B = y
  generalize refG A B = g
  have hs : ∀ (z : FVec Ideal S_ .f32) (i : S4096x8192.Idx), broadcastInDim S4096x8192 ![] bcast_S_S4096x8192 z i = z ix0 :=
    fun z i => broadcastInDim_scalar_apply _ z i
  dsimp only [mulf, minimumf, maximumf, Host.divf, Host.roundeven, id]
  simp only [hs]
  rfl

/-- Device `c`'s output is block `c` of the columns of the reference's result. -/
theorem block_refOut (X : Dev Cert.KernelIdeal.nD → Vec Ideal Cert.KernelIdeal.S512x4096 .f32) (Wm : Dev Cert.KernelIdeal.nD → Vec Ideal Cert.KernelIdeal.S4096x8192 .f32)
    (hX : ∀ c, X c = Layout.block ⟨2, ![512, 4096]⟩ ⟨2, ![4096, 4096]⟩ 0 8 c A) (hW : ∀ c, Wm c = B) (c : Dev Cert.KernelIdeal.nD) :
    Cert.KernelIdeal.Run.OUT X Wm c = Layout.block ⟨2, ![4096, 1024]⟩ ⟨2, ![4096, 8192]⟩ 1 8 c (refOut A B) := by
  funext i
  obtain ⟨r, q, rfl⟩ : ∃ (r : Fin 4096) (q : Fin 1024), i = ix2 r q := ⟨i 0, i 1, eq_ix2 i⟩
  have ht : Layout.Tiles ⟨2, ![4096, 1024]⟩ ⟨2, ![4096, 8192]⟩ 1 8 := by decide
  have hx : ∀ (s : Dev Cert.KernelIdeal.nD) (r : Fin 512) (k : Fin 4096), X s (ix2 r k) = A (ix2 (Cert.KernelIdeal.Run.rowOf s r) k) := fun s r k => by
    rw [hX, Layout.block_apply]
    congr 1
    funext a
    match a with
    | ⟨0, _⟩ => rfl
    | ⟨1, _⟩ => rfl
  rw [Layout.block_apply]
  obtain ⟨Q', hQ, hi⟩ : ∃ Q' : Fin 8192, Q'.val = c.val * 1024 + q.val ∧ ht.idx c (ix2 r q) = ix2 r Q' := by
    refine ⟨ht.idx c (ix2 r q) 1, rfl, ?_⟩
    funext a
    match a with
    | ⟨0, _⟩ => rfl
    | ⟨1, _⟩ => rfl
  rw [hi, refOut_apply]
  exact Cert.KernelIdeal.Run.OUT_apply A B X Wm hx hW c r q Q' hQ

/-- The value claim: from memories that agree, the kernel's devices end with the blocks of the reference's result. -/
theorem value : Cert.algebraic_KernelIdeal_ReferenceIdeal := by
  intro m ρ m' ρ' _ hagree
  refine ⟨refOut (m' (((0 : Dev nD).tc : Thread nD τ).loc main_arg0)) (m' (((0 : Dev nD).tc : Thread nD τ).loc main_arg1)), ?_, ?_⟩
  · refine (θ_run Cert.KernelIdeal.defs _ _).mono (fun _ h c => ⟨(h.1 c).1.trans ?_, (h.1 c).2⟩)
      (Cert.KernelIdeal.Run.run_values (F := Ideal) m ρ)
    exact block_refOut _ _ _ _ (fun c => (Cert.KernelIdeal.Run.Xm_eq m c).trans (hagree c).1) (fun c => (hagree c).2) c
  · exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Frames
public import proofs.«01_k».proof.Proof.Algebra

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, by
  exact ⟨frame_kernel, frame_ideal, frame_reference, trivial, value⟩⟩

end Cert.Proof

end
